-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S7x2x64x1024 : Shape := ⟨4, ![7, 2, 64, 1024]⟩
abbrev S14 : Shape := ⟨1, ![14]⟩
abbrev S_ : Shape := ⟨0, ![]⟩
abbrev S128x512 : Shape := ⟨2, ![128, 512]⟩
abbrev S128x1024 : Shape := ⟨2, ![128, 1024]⟩
abbrev S1 : Shape := ⟨1, ![1]⟩
abbrev S1x1x64x1024 : Shape := ⟨4, ![1, 1, 64, 1024]⟩
abbrev S64x1024 : Shape := ⟨2, ![64, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S7x2x64x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c128_i32 : BitVec 32 := 128#32
  let v106 : BitVec 32 := Scalar.muli v105 c128_i32
  let v107 : Index := Scalar.indexCast v106
  let c0 : Index := 0#32
  ![v107.toNat, 0]
def k0_off2 (d0 : Dev nD) (c1_i32_64 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c128_i32_73 : BitVec 32 := 128#32
  let v113 : BitVec 32 := Scalar.muli v105 c128_i32_73
  let v114 : Index := Scalar.indexCast v113
  let c0_74 : Index := 0#32
  ![v114.toNat, 0]
def k0_off3 (d0 : Dev nD) (c1_i32_64 : BitVec 32) (c0_i32_76 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c128_i32_75 : BitVec 32 := 128#32
  let v118 : BitVec 32 := Scalar.muli v105 c128_i32_75
  let v119 : BitVec 32 := Scalar.addi v118 c0_i32_76
  let c0_i32_85 : BitVec 32 := 0#32
  ![v119.toNat, 0]
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_81 : BitVec 32 := 1#32
  let v120 : BitVec 32 := Scalar.muli v105 c1_i32_81
  let v121 : BitVec 32 := Scalar.addi c0_i32_82 v120
  v121.toNat
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_91 : BitVec 32 := 1#32
  let v131 : BitVec 32 := Scalar.muli v105 c1_i32_91
  let v132 : BitVec 32 := Scalar.addi c0_i32_92 v131
  v132.toNat
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_96 : BitVec 32 := 2#32
  let v140 : BitVec 32 := Scalar.addi v2 c2_i32_96
  let c8_i32_97 : BitVec 32 := 8#32
  let c0_i32_98 : BitVec 32 := 0#32
  let v141 : BitVec 1 := Scalar.cmpi .eq c8_i32_97 c0_i32_98
  let c1_i32_99 : BitVec 32 := 1#32
  let v142 : BitVec 32 := Scalar.select v141 c1_i32_99 c8_i32_97
  let v143 : BitVec 32 := Scalar.remsi v140 v142
  let c0_i32_101 : BitVec 32 := 0#32
  let v145 : BitVec 1 := Scalar.cmpi .slt v143 c0_i32_101
  let c0_i32_102 : BitVec 32 := 0#32
  let v146 : BitVec 1 := Scalar.cmpi .slt v142 c0_i32_102
  let v147 : BitVec 1 := Scalar.xori v145 v146
  let c0_i32_100 : BitVec 32 := 0#32
  let v144 : BitVec 1 := Scalar.cmpi .ne v143 c0_i32_100
  let v148 : BitVec 1 := Scalar.andi v147 v144
  let v149 : BitVec 32 := Scalar.addi v143 v142
  let v150 : BitVec 32 := Scalar.select v148 v149 v143
  let c1_i32_116 : BitVec 32 := 1#32
  let v165 : BitVec 32 := Scalar.muli v150 c1_i32_116
  let v166 : BitVec 32 := Scalar.addi c0_i32_117 v165
  v166.toNat
def k0_dev11 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_96 : BitVec 32 := 2#32
  let v140 : BitVec 32 := Scalar.addi v2 c2_i32_96
  let c8_i32_97 : BitVec 32 := 8#32
  let c0_i32_98 : BitVec 32 := 0#32
  let v141 : BitVec 1 := Scalar.cmpi .eq c8_i32_97 c0_i32_98
  let c1_i32_99 : BitVec 32 := 1#32
  let v142 : BitVec 32 := Scalar.select v141 c1_i32_99 c8_i32_97
  let v143 : BitVec 32 := Scalar.remsi v140 v142
  let c0_i32_101 : BitVec 32 := 0#32
  let v145 : BitVec 1 := Scalar.cmpi .slt v143 c0_i32_101
  let c0_i32_102 : BitVec 32 := 0#32
  let v146 : BitVec 1 := Scalar.cmpi .slt v142 c0_i32_102
  let v147 : BitVec 1 := Scalar.xori v145 v146
  let c0_i32_100 : BitVec 32 := 0#32
  let v144 : BitVec 1 := Scalar.cmpi .ne v143 c0_i32_100
  let v148 : BitVec 1 := Scalar.andi v147 v144
  let v149 : BitVec 32 := Scalar.addi v143 v142
  let v150 : BitVec 32 := Scalar.select v148 v149 v143
  let c1_i32_127 : BitVec 32 := 1#32
  let v176 : BitVec 32 := Scalar.muli v150 c1_i32_127
  let v177 : BitVec 32 := Scalar.addi c0_i32_128 v176
  v177.toNat
def k0_dev12 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_132 : BitVec 32 := 3#32
  let v185 : BitVec 32 := Scalar.addi v2 c3_i32_132
  let c8_i32_133 : BitVec 32 := 8#32
  let c0_i32_134 : BitVec 32 := 0#32
  let v186 : BitVec 1 := Scalar.cmpi .eq c8_i32_133 c0_i32_134
  let c1_i32_135 : BitVec 32 := 1#32
  let v187 : BitVec 32 := Scalar.select v186 c1_i32_135 c8_i32_133
  let v188 : BitVec 32 := Scalar.remsi v185 v187
  let c0_i32_137 : BitVec 32 := 0#32
  let v190 : BitVec 1 := Scalar.cmpi .slt v188 c0_i32_137
  let c0_i32_138 : BitVec 32 := 0#32
  let v191 : BitVec 1 := Scalar.cmpi .slt v187 c0_i32_138
  let v192 : BitVec 1 := Scalar.xori v190 v191
  let c0_i32_136 : BitVec 32 := 0#32
  let v189 : BitVec 1 := Scalar.cmpi .ne v188 c0_i32_136
  let v193 : BitVec 1 := Scalar.andi v192 v189
  let v194 : BitVec 32 := Scalar.addi v188 v187
  let v195 : BitVec 32 := Scalar.select v193 v194 v188
  let c1_i32_152 : BitVec 32 := 1#32
  let v210 : BitVec 32 := Scalar.muli v195 c1_i32_152
  let v211 : BitVec 32 := Scalar.addi c0_i32_153 v210
  v211.toNat
def k0_dev13 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_132 : BitVec 32 := 3#32
  let v185 : BitVec 32 := Scalar.addi v2 c3_i32_132
  let c8_i32_133 : BitVec 32 := 8#32
  let c0_i32_134 : BitVec 32 := 0#32
  let v186 : BitVec 1 := Scalar.cmpi .eq c8_i32_133 c0_i32_134
  let c1_i32_135 : BitVec 32 := 1#32
  let v187 : BitVec 32 := Scalar.select v186 c1_i32_135 c8_i32_133
  let v188 : BitVec 32 := Scalar.remsi v185 v187
  let c0_i32_137 : BitVec 32 := 0#32
  let v190 : BitVec 1 := Scalar.cmpi .slt v188 c0_i32_137
  let c0_i32_138 : BitVec 32 := 0#32
  let v191 : BitVec 1 := Scalar.cmpi .slt v187 c0_i32_138
  let v192 : BitVec 1 := Scalar.xori v190 v191
  let c0_i32_136 : BitVec 32 := 0#32
  let v189 : BitVec 1 := Scalar.cmpi .ne v188 c0_i32_136
  let v193 : BitVec 1 := Scalar.andi v192 v189
  let v194 : BitVec 32 := Scalar.addi v188 v187
  let v195 : BitVec 32 := Scalar.select v193 v194 v188
  let c1_i32_163 : BitVec 32 := 1#32
  let v221 : BitVec 32 := Scalar.muli v195 c1_i32_163
  let v222 : BitVec 32 := Scalar.addi c0_i32_164 v221
  v222.toNat
def k0_dev14 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_168 : BitVec 32 := 4#32
  let v230 : BitVec 32 := Scalar.addi v2 c4_i32_168
  let c8_i32_169 : BitVec 32 := 8#32
  let c0_i32_170 : BitVec 32 := 0#32
  let v231 : BitVec 1 := Scalar.cmpi .eq c8_i32_169 c0_i32_170
  let c1_i32_171 : BitVec 32 := 1#32
  let v232 : BitVec 32 := Scalar.select v231 c1_i32_171 c8_i32_169
  let v233 : BitVec 32 := Scalar.remsi v230 v232
  let c0_i32_173 : BitVec 32 := 0#32
  let v235 : BitVec 1 := Scalar.cmpi .slt v233 c0_i32_173
  let c0_i32_174 : BitVec 32 := 0#32
  let v236 : BitVec 1 := Scalar.cmpi .slt v232 c0_i32_174
  let v237 : BitVec 1 := Scalar.xori v235 v236
  let c0_i32_172 : BitVec 32 := 0#32
  let v234 : BitVec 1 := Scalar.cmpi .ne v233 c0_i32_172
  let v238 : BitVec 1 := Scalar.andi v237 v234
  let v239 : BitVec 32 := Scalar.addi v233 v232
  let v240 : BitVec 32 := Scalar.select v238 v239 v233
  let c1_i32_188 : BitVec 32 := 1#32
  let v255 : BitVec 32 := Scalar.muli v240 c1_i32_188
  let v256 : BitVec 32 := Scalar.addi c0_i32_189 v255
  v256.toNat
def k0_dev15 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_168 : BitVec 32 := 4#32
  let v230 : BitVec 32 := Scalar.addi v2 c4_i32_168
  let c8_i32_169 : BitVec 32 := 8#32
  let c0_i32_170 : BitVec 32 := 0#32
  let v231 : BitVec 1 := Scalar.cmpi .eq c8_i32_169 c0_i32_170
  let c1_i32_171 : BitVec 32 := 1#32
  let v232 : BitVec 32 := Scalar.select v231 c1_i32_171 c8_i32_169
  let v233 : BitVec 32 := Scalar.remsi v230 v232
  let c0_i32_173 : BitVec 32 := 0#32
  let v235 : BitVec 1 := Scalar.cmpi .slt v233 c0_i32_173
  let c0_i32_174 : BitVec 32 := 0#32
  let v236 : BitVec 1 := Scalar.cmpi .slt v232 c0_i32_174
  let v237 : BitVec 1 := Scalar.xori v235 v236
  let c0_i32_172 : BitVec 32 := 0#32
  let v234 : BitVec 1 := Scalar.cmpi .ne v233 c0_i32_172
  let v238 : BitVec 1 := Scalar.andi v237 v234
  let v239 : BitVec 32 := Scalar.addi v233 v232
  let v240 : BitVec 32 := Scalar.select v238 v239 v233
  let c1_i32_199 : BitVec 32 := 1#32
  let v266 : BitVec 32 := Scalar.muli v240 c1_i32_199
  let v267 : BitVec 32 := Scalar.addi c0_i32_200 v266
  v267.toNat
def k0_dev16 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_204 : BitVec 32 := 5#32
  let v275 : BitVec 32 := Scalar.addi v2 c5_i32_204
  let c8_i32_205 : BitVec 32 := 8#32
  let c0_i32_206 : BitVec 32 := 0#32
  let v276 : BitVec 1 := Scalar.cmpi .eq c8_i32_205 c0_i32_206
  let c1_i32_207 : BitVec 32 := 1#32
  let v277 : BitVec 32 := Scalar.select v276 c1_i32_207 c8_i32_205
  let v278 : BitVec 32 := Scalar.remsi v275 v277
  let c0_i32_209 : BitVec 32 := 0#32
  let v280 : BitVec 1 := Scalar.cmpi .slt v278 c0_i32_209
  let c0_i32_210 : BitVec 32 := 0#32
  let v281 : BitVec 1 := Scalar.cmpi .slt v277 c0_i32_210
  let v282 : BitVec 1 := Scalar.xori v280 v281
  let c0_i32_208 : BitVec 32 := 0#32
  let v279 : BitVec 1 := Scalar.cmpi .ne v278 c0_i32_208
  let v283 : BitVec 1 := Scalar.andi v282 v279
  let v284 : BitVec 32 := Scalar.addi v278 v277
  let v285 : BitVec 32 := Scalar.select v283 v284 v278
  let c1_i32_224 : BitVec 32 := 1#32
  let v300 : BitVec 32 := Scalar.muli v285 c1_i32_224
  let v301 : BitVec 32 := Scalar.addi c0_i32_225 v300
  v301.toNat
def k0_dev17 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_204 : BitVec 32 := 5#32
  let v275 : BitVec 32 := Scalar.addi v2 c5_i32_204
  let c8_i32_205 : BitVec 32 := 8#32
  let c0_i32_206 : BitVec 32 := 0#32
  let v276 : BitVec 1 := Scalar.cmpi .eq c8_i32_205 c0_i32_206
  let c1_i32_207 : BitVec 32 := 1#32
  let v277 : BitVec 32 := Scalar.select v276 c1_i32_207 c8_i32_205
  let v278 : BitVec 32 := Scalar.remsi v275 v277
  let c0_i32_209 : BitVec 32 := 0#32
  let v280 : BitVec 1 := Scalar.cmpi .slt v278 c0_i32_209
  let c0_i32_210 : BitVec 32 := 0#32
  let v281 : BitVec 1 := Scalar.cmpi .slt v277 c0_i32_210
  let v282 : BitVec 1 := Scalar.xori v280 v281
  let c0_i32_208 : BitVec 32 := 0#32
  let v279 : BitVec 1 := Scalar.cmpi .ne v278 c0_i32_208
  let v283 : BitVec 1 := Scalar.andi v282 v279
  let v284 : BitVec 32 := Scalar.addi v278 v277
  let v285 : BitVec 32 := Scalar.select v283 v284 v278
  let c1_i32_234 : BitVec 32 := 1#32
  let v311 : BitVec 32 := Scalar.muli v285 c1_i32_234
  let v312 : BitVec 32 := Scalar.addi c0_i32_235 v311
  v312.toNat
def k0_dev18 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_239 : BitVec 32 := 6#32
  let v320 : BitVec 32 := Scalar.addi v2 c6_i32_239
  let c8_i32_240 : BitVec 32 := 8#32
  let c0_i32_241 : BitVec 32 := 0#32
  let v321 : BitVec 1 := Scalar.cmpi .eq c8_i32_240 c0_i32_241
  let c1_i32_242 : BitVec 32 := 1#32
  let v322 : BitVec 32 := Scalar.select v321 c1_i32_242 c8_i32_240
  let v323 : BitVec 32 := Scalar.remsi v320 v322
  let c0_i32_244 : BitVec 32 := 0#32
  let v325 : BitVec 1 := Scalar.cmpi .slt v323 c0_i32_244
  let c0_i32_245 : BitVec 32 := 0#32
  let v326 : BitVec 1 := Scalar.cmpi .slt v322 c0_i32_245
  let v327 : BitVec 1 := Scalar.xori v325 v326
  let c0_i32_243 : BitVec 32 := 0#32
  let v324 : BitVec 1 := Scalar.cmpi .ne v323 c0_i32_243
  let v328 : BitVec 1 := Scalar.andi v327 v324
  let v329 : BitVec 32 := Scalar.addi v323 v322
  let v330 : BitVec 32 := Scalar.select v328 v329 v323
  let c1_i32_258 : BitVec 32 := 1#32
  let v345 : BitVec 32 := Scalar.muli v330 c1_i32_258
  let v346 : BitVec 32 := Scalar.addi c0_i32_259 v345
  v346.toNat
def k0_dev19 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_239 : BitVec 32 := 6#32
  let v320 : BitVec 32 := Scalar.addi v2 c6_i32_239
  let c8_i32_240 : BitVec 32 := 8#32
  let c0_i32_241 : BitVec 32 := 0#32
  let v321 : BitVec 1 := Scalar.cmpi .eq c8_i32_240 c0_i32_241
  let c1_i32_242 : BitVec 32 := 1#32
  let v322 : BitVec 32 := Scalar.select v321 c1_i32_242 c8_i32_240
  let v323 : BitVec 32 := Scalar.remsi v320 v322
  let c0_i32_244 : BitVec 32 := 0#32
  let v325 : BitVec 1 := Scalar.cmpi .slt v323 c0_i32_244
  let c0_i32_245 : BitVec 32 := 0#32
  let v326 : BitVec 1 := Scalar.cmpi .slt v322 c0_i32_245
  let v327 : BitVec 1 := Scalar.xori v325 v326
  let c0_i32_243 : BitVec 32 := 0#32
  let v324 : BitVec 1 := Scalar.cmpi .ne v323 c0_i32_243
  let v328 : BitVec 1 := Scalar.andi v327 v324
  let v329 : BitVec 32 := Scalar.addi v323 v322
  let v330 : BitVec 32 := Scalar.select v328 v329 v323
  let c1_i32_268 : BitVec 32 := 1#32
  let v356 : BitVec 32 := Scalar.muli v330 c1_i32_268
  let v357 : BitVec 32 := Scalar.addi c0_i32_269 v356
  v357.toNat
def k0_dev20 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_273 : BitVec 32 := 7#32
  let v365 : BitVec 32 := Scalar.addi v2 c7_i32_273
  let c8_i32_274 : BitVec 32 := 8#32
  let c0_i32_275 : BitVec 32 := 0#32
  let v366 : BitVec 1 := Scalar.cmpi .eq c8_i32_274 c0_i32_275
  let c1_i32_276 : BitVec 32 := 1#32
  let v367 : BitVec 32 := Scalar.select v366 c1_i32_276 c8_i32_274
  let v368 : BitVec 32 := Scalar.remsi v365 v367
  let c0_i32_278 : BitVec 32 := 0#32
  let v370 : BitVec 1 := Scalar.cmpi .slt v368 c0_i32_278
  let c0_i32_279 : BitVec 32 := 0#32
  let v371 : BitVec 1 := Scalar.cmpi .slt v367 c0_i32_279
  let v372 : BitVec 1 := Scalar.xori v370 v371
  let c0_i32_277 : BitVec 32 := 0#32
  let v369 : BitVec 1 := Scalar.cmpi .ne v368 c0_i32_277
  let v373 : BitVec 1 := Scalar.andi v372 v369
  let v374 : BitVec 32 := Scalar.addi v368 v367
  let v375 : BitVec 32 := Scalar.select v373 v374 v368
  let c1_i32_292 : BitVec 32 := 1#32
  let v390 : BitVec 32 := Scalar.muli v375 c1_i32_292
  let v391 : BitVec 32 := Scalar.addi c0_i32_293 v390
  v391.toNat
def k0_dev21 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_273 : BitVec 32 := 7#32
  let v365 : BitVec 32 := Scalar.addi v2 c7_i32_273
  let c8_i32_274 : BitVec 32 := 8#32
  let c0_i32_275 : BitVec 32 := 0#32
  let v366 : BitVec 1 := Scalar.cmpi .eq c8_i32_274 c0_i32_275
  let c1_i32_276 : BitVec 32 := 1#32
  let v367 : BitVec 32 := Scalar.select v366 c1_i32_276 c8_i32_274
  let v368 : BitVec 32 := Scalar.remsi v365 v367
  let c0_i32_278 : BitVec 32 := 0#32
  let v370 : BitVec 1 := Scalar.cmpi .slt v368 c0_i32_278
  let c0_i32_279 : BitVec 32 := 0#32
  let v371 : BitVec 1 := Scalar.cmpi .slt v367 c0_i32_279
  let v372 : BitVec 1 := Scalar.xori v370 v371
  let c0_i32_277 : BitVec 32 := 0#32
  let v369 : BitVec 1 := Scalar.cmpi .ne v368 c0_i32_277
  let v373 : BitVec 1 := Scalar.andi v372 v369
  let v374 : BitVec 32 := Scalar.addi v368 v367
  let v375 : BitVec 32 := Scalar.select v373 v374 v368
  let c1_i32_302 : BitVec 32 := 1#32
  let v401 : BitVec 32 := Scalar.muli v375 c1_i32_302
  let v402 : BitVec 32 := Scalar.addi c0_i32_303 v401
  v402.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_307 : BitVec 32 := 128#32
  let v410 : BitVec 32 := Scalar.muli v2 c128_i32_307
  let v411 : Index := Scalar.indexCast v410
  let c0_308 : Index := 0#32
  ![v411.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_312 : BitVec 32 := 128#32
  let v417 : BitVec 32 := Scalar.muli v2 c128_i32_312
  let v418 : Index := Scalar.indexCast v417
  let c0_313 : Index := 0#32
  ![v418.toNat, 0]
def k0_off6 (d0 : Dev nD) (c0_i32_378 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_377 : BitVec 32 := 128#32
  let v471 : BitVec 32 := Scalar.muli v2 c128_i32_377
  let v472 : BitVec 32 := Scalar.addi v471 c0_i32_378
  let v473 : Index := Scalar.indexCast v472
  let c0_379 : Index := 0#32
  ![v473.toNat, 0]
def k0_off7 (d0 : Dev nD) (c0_i32_419 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_418 : BitVec 32 := 128#32
  let v526 : BitVec 32 := Scalar.muli v2 c128_i32_418
  let v527 : BitVec 32 := Scalar.addi v526 c0_i32_419
  let c0_i32_424 : BitVec 32 := 0#32
  ![v527.toNat, 0]
def k0_dev22 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_409 : BitVec 32 := 1#32
  let v513 : BitVec 32 := Scalar.addi v2 c1_i32_409
  let c8_i32_410 : BitVec 32 := 8#32
  let c0_i32_411 : BitVec 32 := 0#32
  let v514 : BitVec 1 := Scalar.cmpi .eq c8_i32_410 c0_i32_411
  let c1_i32_412 : BitVec 32 := 1#32
  let v515 : BitVec 32 := Scalar.select v514 c1_i32_412 c8_i32_410
  let v516 : BitVec 32 := Scalar.remsi v513 v515
  let c0_i32_414 : BitVec 32 := 0#32
  let v518 : BitVec 1 := Scalar.cmpi .slt v516 c0_i32_414
  let c0_i32_415 : BitVec 32 := 0#32
  let v519 : BitVec 1 := Scalar.cmpi .slt v515 c0_i32_415
  let v520 : BitVec 1 := Scalar.xori v518 v519
  let c0_i32_413 : BitVec 32 := 0#32
  let v517 : BitVec 1 := Scalar.cmpi .ne v516 c0_i32_413
  let v521 : BitVec 1 := Scalar.andi v520 v517
  let v522 : BitVec 32 := Scalar.addi v516 v515
  let v523 : BitVec 32 := Scalar.select v521 v522 v516
  let c1_i32_422 : BitVec 32 := 1#32
  let v528 : BitVec 32 := Scalar.muli v523 c1_i32_422
  let v529 : BitVec 32 := Scalar.addi c0_i32_423 v528
  v529.toNat
def k0_dev23 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_426 : BitVec 32 := 2#32
  let v536 : BitVec 32 := Scalar.addi v2 c2_i32_426
  let c8_i32_427 : BitVec 32 := 8#32
  let c0_i32_428 : BitVec 32 := 0#32
  let v537 : BitVec 1 := Scalar.cmpi .eq c8_i32_427 c0_i32_428
  let c1_i32_429 : BitVec 32 := 1#32
  let v538 : BitVec 32 := Scalar.select v537 c1_i32_429 c8_i32_427
  let v539 : BitVec 32 := Scalar.remsi v536 v538
  let c0_i32_431 : BitVec 32 := 0#32
  let v541 : BitVec 1 := Scalar.cmpi .slt v539 c0_i32_431
  let c0_i32_432 : BitVec 32 := 0#32
  let v542 : BitVec 1 := Scalar.cmpi .slt v538 c0_i32_432
  let v543 : BitVec 1 := Scalar.xori v541 v542
  let c0_i32_430 : BitVec 32 := 0#32
  let v540 : BitVec 1 := Scalar.cmpi .ne v539 c0_i32_430
  let v544 : BitVec 1 := Scalar.andi v543 v540
  let v545 : BitVec 32 := Scalar.addi v539 v538
  let v546 : BitVec 32 := Scalar.select v544 v545 v539
  let c1_i32_439 : BitVec 32 := 1#32
  let v551 : BitVec 32 := Scalar.muli v546 c1_i32_439
  let v552 : BitVec 32 := Scalar.addi c0_i32_440 v551
  v552.toNat
def k0_dev24 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_443 : BitVec 32 := 3#32
  let v559 : BitVec 32 := Scalar.addi v2 c3_i32_443
  let c8_i32_444 : BitVec 32 := 8#32
  let c0_i32_445 : BitVec 32 := 0#32
  let v560 : BitVec 1 := Scalar.cmpi .eq c8_i32_444 c0_i32_445
  let c1_i32_446 : BitVec 32 := 1#32
  let v561 : BitVec 32 := Scalar.select v560 c1_i32_446 c8_i32_444
  let v562 : BitVec 32 := Scalar.remsi v559 v561
  let c0_i32_448 : BitVec 32 := 0#32
  let v564 : BitVec 1 := Scalar.cmpi .slt v562 c0_i32_448
  let c0_i32_449 : BitVec 32 := 0#32
  let v565 : BitVec 1 := Scalar.cmpi .slt v561 c0_i32_449
  let v566 : BitVec 1 := Scalar.xori v564 v565
  let c0_i32_447 : BitVec 32 := 0#32
  let v563 : BitVec 1 := Scalar.cmpi .ne v562 c0_i32_447
  let v567 : BitVec 1 := Scalar.andi v566 v563
  let v568 : BitVec 32 := Scalar.addi v562 v561
  let v569 : BitVec 32 := Scalar.select v567 v568 v562
  let c1_i32_456 : BitVec 32 := 1#32
  let v574 : BitVec 32 := Scalar.muli v569 c1_i32_456
  let v575 : BitVec 32 := Scalar.addi c0_i32_457 v574
  v575.toNat
def k0_dev25 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_460 : BitVec 32 := 4#32
  let v582 : BitVec 32 := Scalar.addi v2 c4_i32_460
  let c8_i32_461 : BitVec 32 := 8#32
  let c0_i32_462 : BitVec 32 := 0#32
  let v583 : BitVec 1 := Scalar.cmpi .eq c8_i32_461 c0_i32_462
  let c1_i32_463 : BitVec 32 := 1#32
  let v584 : BitVec 32 := Scalar.select v583 c1_i32_463 c8_i32_461
  let v585 : BitVec 32 := Scalar.remsi v582 v584
  let c0_i32_465 : BitVec 32 := 0#32
  let v587 : BitVec 1 := Scalar.cmpi .slt v585 c0_i32_465
  let c0_i32_466 : BitVec 32 := 0#32
  let v588 : BitVec 1 := Scalar.cmpi .slt v584 c0_i32_466
  let v589 : BitVec 1 := Scalar.xori v587 v588
  let c0_i32_464 : BitVec 32 := 0#32
  let v586 : BitVec 1 := Scalar.cmpi .ne v585 c0_i32_464
  let v590 : BitVec 1 := Scalar.andi v589 v586
  let v591 : BitVec 32 := Scalar.addi v585 v584
  let v592 : BitVec 32 := Scalar.select v590 v591 v585
  let c1_i32_473 : BitVec 32 := 1#32
  let v597 : BitVec 32 := Scalar.muli v592 c1_i32_473
  let v598 : BitVec 32 := Scalar.addi c0_i32_474 v597
  v598.toNat
def k0_dev26 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_477 : BitVec 32 := 5#32
  let v605 : BitVec 32 := Scalar.addi v2 c5_i32_477
  let c8_i32_478 : BitVec 32 := 8#32
  let c0_i32_479 : BitVec 32 := 0#32
  let v606 : BitVec 1 := Scalar.cmpi .eq c8_i32_478 c0_i32_479
  let c1_i32_480 : BitVec 32 := 1#32
  let v607 : BitVec 32 := Scalar.select v606 c1_i32_480 c8_i32_478
  let v608 : BitVec 32 := Scalar.remsi v605 v607
  let c0_i32_482 : BitVec 32 := 0#32
  let v610 : BitVec 1 := Scalar.cmpi .slt v608 c0_i32_482
  let c0_i32_483 : BitVec 32 := 0#32
  let v611 : BitVec 1 := Scalar.cmpi .slt v607 c0_i32_483
  let v612 : BitVec 1 := Scalar.xori v610 v611
  let c0_i32_481 : BitVec 32 := 0#32
  let v609 : BitVec 1 := Scalar.cmpi .ne v608 c0_i32_481
  let v613 : BitVec 1 := Scalar.andi v612 v609
  let v614 : BitVec 32 := Scalar.addi v608 v607
  let v615 : BitVec 32 := Scalar.select v613 v614 v608
  let c1_i32_490 : BitVec 32 := 1#32
  let v620 : BitVec 32 := Scalar.muli v615 c1_i32_490
  let v621 : BitVec 32 := Scalar.addi c0_i32_491 v620
  v621.toNat
def k0_dev27 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_494 : BitVec 32 := 6#32
  let v628 : BitVec 32 := Scalar.addi v2 c6_i32_494
  let c8_i32_495 : BitVec 32 := 8#32
  let c0_i32_496 : BitVec 32 := 0#32
  let v629 : BitVec 1 := Scalar.cmpi .eq c8_i32_495 c0_i32_496
  let c1_i32_497 : BitVec 32 := 1#32
  let v630 : BitVec 32 := Scalar.select v629 c1_i32_497 c8_i32_495
  let v631 : BitVec 32 := Scalar.remsi v628 v630
  let c0_i32_499 : BitVec 32 := 0#32
  let v633 : BitVec 1 := Scalar.cmpi .slt v631 c0_i32_499
  let c0_i32_500 : BitVec 32 := 0#32
  let v634 : BitVec 1 := Scalar.cmpi .slt v630 c0_i32_500
  let v635 : BitVec 1 := Scalar.xori v633 v634
  let c0_i32_498 : BitVec 32 := 0#32
  let v632 : BitVec 1 := Scalar.cmpi .ne v631 c0_i32_498
  let v636 : BitVec 1 := Scalar.andi v635 v632
  let v637 : BitVec 32 := Scalar.addi v631 v630
  let v638 : BitVec 32 := Scalar.select v636 v637 v631
  let c1_i32_507 : BitVec 32 := 1#32
  let v643 : BitVec 32 := Scalar.muli v638 c1_i32_507
  let v644 : BitVec 32 := Scalar.addi c0_i32_508 v643
  v644.toNat
def k0_dev28 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_511 : BitVec 32 := 7#32
  let v651 : BitVec 32 := Scalar.addi v2 c7_i32_511
  let c8_i32_512 : BitVec 32 := 8#32
  let c0_i32_513 : BitVec 32 := 0#32
  let v652 : BitVec 1 := Scalar.cmpi .eq c8_i32_512 c0_i32_513
  let c1_i32_514 : BitVec 32 := 1#32
  let v653 : BitVec 32 := Scalar.select v652 c1_i32_514 c8_i32_512
  let v654 : BitVec 32 := Scalar.remsi v651 v653
  let c0_i32_516 : BitVec 32 := 0#32
  let v656 : BitVec 1 := Scalar.cmpi .slt v654 c0_i32_516
  let c0_i32_517 : BitVec 32 := 0#32
  let v657 : BitVec 1 := Scalar.cmpi .slt v653 c0_i32_517
  let v658 : BitVec 1 := Scalar.xori v656 v657
  let c0_i32_515 : BitVec 32 := 0#32
  let v655 : BitVec 1 := Scalar.cmpi .ne v654 c0_i32_515
  let v659 : BitVec 1 := Scalar.andi v658 v655
  let v660 : BitVec 32 := Scalar.addi v654 v653
  let v661 : BitVec 32 := Scalar.select v659 v660 v654
  let c1_i32_524 : BitVec 32 := 1#32
  let v666 : BitVec 32 := Scalar.muli v661 c1_i32_524
  let v667 : BitVec 32 := Scalar.addi c0_i32_525 v666
  v667.toNat
def k0_dev29 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_629 : BitVec 32 := 1#32
  let v765 : BitVec 32 := Scalar.addi v2 c1_i32_629
  let c8_i32_630 : BitVec 32 := 8#32
  let c0_i32_631 : BitVec 32 := 0#32
  let v766 : BitVec 1 := Scalar.cmpi .eq c8_i32_630 c0_i32_631
  let c1_i32_632 : BitVec 32 := 1#32
  let v767 : BitVec 32 := Scalar.select v766 c1_i32_632 c8_i32_630
  let v768 : BitVec 32 := Scalar.remsi v765 v767
  let c0_i32_634 : BitVec 32 := 0#32
  let v770 : BitVec 1 := Scalar.cmpi .slt v768 c0_i32_634
  let c0_i32_635 : BitVec 32 := 0#32
  let v771 : BitVec 1 := Scalar.cmpi .slt v767 c0_i32_635
  let v772 : BitVec 1 := Scalar.xori v770 v771
  let c0_i32_633 : BitVec 32 := 0#32
  let v769 : BitVec 1 := Scalar.cmpi .ne v768 c0_i32_633
  let v773 : BitVec 1 := Scalar.andi v772 v769
  let v774 : BitVec 32 := Scalar.addi v768 v767
  let v775 : BitVec 32 := Scalar.select v773 v774 v768
  let c1_i32_642 : BitVec 32 := 1#32
  let v780 : BitVec 32 := Scalar.muli v775 c1_i32_642
  let v781 : BitVec 32 := Scalar.addi c0_i32_643 v780
  v781.toNat
def k0_dev30 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_646 : BitVec 32 := 2#32
  let v788 : BitVec 32 := Scalar.addi v2 c2_i32_646
  let c8_i32_647 : BitVec 32 := 8#32
  let c0_i32_648 : BitVec 32 := 0#32
  let v789 : BitVec 1 := Scalar.cmpi .eq c8_i32_647 c0_i32_648
  let c1_i32_649 : BitVec 32 := 1#32
  let v790 : BitVec 32 := Scalar.select v789 c1_i32_649 c8_i32_647
  let v791 : BitVec 32 := Scalar.remsi v788 v790
  let c0_i32_651 : BitVec 32 := 0#32
  let v793 : BitVec 1 := Scalar.cmpi .slt v791 c0_i32_651
  let c0_i32_652 : BitVec 32 := 0#32
  let v794 : BitVec 1 := Scalar.cmpi .slt v790 c0_i32_652
  let v795 : BitVec 1 := Scalar.xori v793 v794
  let c0_i32_650 : BitVec 32 := 0#32
  let v792 : BitVec 1 := Scalar.cmpi .ne v791 c0_i32_650
  let v796 : BitVec 1 := Scalar.andi v795 v792
  let v797 : BitVec 32 := Scalar.addi v791 v790
  let v798 : BitVec 32 := Scalar.select v796 v797 v791
  let c1_i32_659 : BitVec 32 := 1#32
  let v803 : BitVec 32 := Scalar.muli v798 c1_i32_659
  let v804 : BitVec 32 := Scalar.addi c0_i32_660 v803
  v804.toNat
def k0_dev31 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_663 : BitVec 32 := 3#32
  let v811 : BitVec 32 := Scalar.addi v2 c3_i32_663
  let c8_i32_664 : BitVec 32 := 8#32
  let c0_i32_665 : BitVec 32 := 0#32
  let v812 : BitVec 1 := Scalar.cmpi .eq c8_i32_664 c0_i32_665
  let c1_i32_666 : BitVec 32 := 1#32
  let v813 : BitVec 32 := Scalar.select v812 c1_i32_666 c8_i32_664
  let v814 : BitVec 32 := Scalar.remsi v811 v813
  let c0_i32_668 : BitVec 32 := 0#32
  let v816 : BitVec 1 := Scalar.cmpi .slt v814 c0_i32_668
  let c0_i32_669 : BitVec 32 := 0#32
  let v817 : BitVec 1 := Scalar.cmpi .slt v813 c0_i32_669
  let v818 : BitVec 1 := Scalar.xori v816 v817
  let c0_i32_667 : BitVec 32 := 0#32
  let v815 : BitVec 1 := Scalar.cmpi .ne v814 c0_i32_667
  let v819 : BitVec 1 := Scalar.andi v818 v815
  let v820 : BitVec 32 := Scalar.addi v814 v813
  let v821 : BitVec 32 := Scalar.select v819 v820 v814
  let c1_i32_676 : BitVec 32 := 1#32
  let v826 : BitVec 32 := Scalar.muli v821 c1_i32_676
  let v827 : BitVec 32 := Scalar.addi c0_i32_677 v826
  v827.toNat
def k0_dev32 (d0 : Dev nD) : Nat :=
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_680 : BitVec 32 := 4#32
  let v834 : BitVec 32 := Scalar.addi v2 c4_i32_680
  let c8_i32_681 : BitVec 32 := 8#32
  let c0_i32_682 : BitVec 32 := 0#32
  let v835 : BitVec 1 := Scalar.cmpi .eq c8_i32_681 c0_i32_682
  let c1_i32_683 : BitVec 32 := 1#32
  let v836 : BitVec 32 := Scalar.select v835 c1_i32_683 c8_i32_681
  let v837 : BitVec 32 := Scalar.remsi v834 v836
  let c0_i32_685 : BitVec 32 := 0#32
  let v839 : BitVec 1 := Scalar.cmpi .slt v837 c0_i32_685
  let c0_i32_686 : BitVec 32 := 0#32
  let v840 : BitVec 1 := Scalar.cmpi .slt v836 c0_i32_686
  let v841 : BitVec 1 := Scalar.xori v839 v840
  let c0_i32_684 : BitVec 32 := 0#32
  let v838 : BitVec 1 := Scalar.cmpi .ne v837 c0_i32_684
  let v842 : BitVec 1 := Scalar.andi v841 v838
  let v843 : BitVec 32 := Scalar.addi v837 v836
  let v844 : BitVec 32 := Scalar.select v842 v843 v837
  let c1_i32_693 : BitVec 32 := 1#32
  let v849 : BitVec 32 := Scalar.muli v844 c1_i32_693
  let v850 : BitVec 32 := Scalar.addi c0_i32_694 v849
  v850.toNat
def k0_dev33 (d0 : Dev nD) : Nat :=
  let c0_i32_711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_697 : BitVec 32 := 5#32
  let v857 : BitVec 32 := Scalar.addi v2 c5_i32_697
  let c8_i32_698 : BitVec 32 := 8#32
  let c0_i32_699 : BitVec 32 := 0#32
  let v858 : BitVec 1 := Scalar.cmpi .eq c8_i32_698 c0_i32_699
  let c1_i32_700 : BitVec 32 := 1#32
  let v859 : BitVec 32 := Scalar.select v858 c1_i32_700 c8_i32_698
  let v860 : BitVec 32 := Scalar.remsi v857 v859
  let c0_i32_702 : BitVec 32 := 0#32
  let v862 : BitVec 1 := Scalar.cmpi .slt v860 c0_i32_702
  let c0_i32_703 : BitVec 32 := 0#32
  let v863 : BitVec 1 := Scalar.cmpi .slt v859 c0_i32_703
  let v864 : BitVec 1 := Scalar.xori v862 v863
  let c0_i32_701 : BitVec 32 := 0#32
  let v861 : BitVec 1 := Scalar.cmpi .ne v860 c0_i32_701
  let v865 : BitVec 1 := Scalar.andi v864 v861
  let v866 : BitVec 32 := Scalar.addi v860 v859
  let v867 : BitVec 32 := Scalar.select v865 v866 v860
  let c1_i32_710 : BitVec 32 := 1#32
  let v872 : BitVec 32 := Scalar.muli v867 c1_i32_710
  let v873 : BitVec 32 := Scalar.addi c0_i32_711 v872
  v873.toNat
def k0_dev34 (d0 : Dev nD) : Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_714 : BitVec 32 := 6#32
  let v880 : BitVec 32 := Scalar.addi v2 c6_i32_714
  let c8_i32_715 : BitVec 32 := 8#32
  let c0_i32_716 : BitVec 32 := 0#32
  let v881 : BitVec 1 := Scalar.cmpi .eq c8_i32_715 c0_i32_716
  let c1_i32_717 : BitVec 32 := 1#32
  let v882 : BitVec 32 := Scalar.select v881 c1_i32_717 c8_i32_715
  let v883 : BitVec 32 := Scalar.remsi v880 v882
  let c0_i32_719 : BitVec 32 := 0#32
  let v885 : BitVec 1 := Scalar.cmpi .slt v883 c0_i32_719
  let c0_i32_720 : BitVec 32 := 0#32
  let v886 : BitVec 1 := Scalar.cmpi .slt v882 c0_i32_720
  let v887 : BitVec 1 := Scalar.xori v885 v886
  let c0_i32_718 : BitVec 32 := 0#32
  let v884 : BitVec 1 := Scalar.cmpi .ne v883 c0_i32_718
  let v888 : BitVec 1 := Scalar.andi v887 v884
  let v889 : BitVec 32 := Scalar.addi v883 v882
  let v890 : BitVec 32 := Scalar.select v888 v889 v883
  let c1_i32_727 : BitVec 32 := 1#32
  let v895 : BitVec 32 := Scalar.muli v890 c1_i32_727
  let v896 : BitVec 32 := Scalar.addi c0_i32_728 v895
  v896.toNat
def k0_dev35 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_731 : BitVec 32 := 7#32
  let v903 : BitVec 32 := Scalar.addi v2 c7_i32_731
  let c8_i32_732 : BitVec 32 := 8#32
  let c0_i32_733 : BitVec 32 := 0#32
  let v904 : BitVec 1 := Scalar.cmpi .eq c8_i32_732 c0_i32_733
  let c1_i32_734 : BitVec 32 := 1#32
  let v905 : BitVec 32 := Scalar.select v904 c1_i32_734 c8_i32_732
  let v906 : BitVec 32 := Scalar.remsi v903 v905
  let c0_i32_736 : BitVec 32 := 0#32
  let v908 : BitVec 1 := Scalar.cmpi .slt v906 c0_i32_736
  let c0_i32_737 : BitVec 32 := 0#32
  let v909 : BitVec 1 := Scalar.cmpi .slt v905 c0_i32_737
  let v910 : BitVec 1 := Scalar.xori v908 v909
  let c0_i32_735 : BitVec 32 := 0#32
  let v907 : BitVec 1 := Scalar.cmpi .ne v906 c0_i32_735
  let v911 : BitVec 1 := Scalar.andi v910 v907
  let v912 : BitVec 32 := Scalar.addi v906 v905
  let v913 : BitVec 32 := Scalar.select v911 v912 v906
  let c1_i32_744 : BitVec 32 := 1#32
  let v918 : BitVec 32 := Scalar.muli v913 c1_i32_744
  let v919 : BitVec 32 := Scalar.addi c0_i32_745 v918
  v919.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/-
The kernel's body as a program in loops: each effect is written once, over the peer `o` of the seven and the
half `h` of the two, and the printed body — a straight line of some three hundred effects — is that program.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.Reduce

open Cert.KernelIdeal Cert.KernelIdeal.Gen
open Idealize.ShloMosaic Idealize.SL.Sem

variable {F : FTy → Type} [FloatOps F]

/-- Programs of the kernel's effects with result `α`. -/
abbrev P (F : FTy → Type) [FloatOps F] (α : Type) := Prog (TpuEff nD τ sig (Elt F) Λ₀ .tc) α

/-! ## The buffers and semaphores by role -/

/-- This device's columns of the left factor, its rows of the right factor, the result, the partial product, and the
    seven pairs of landing slabs. -/
abbrev aM : Memref sig .tc .vmem S1024x512 .f32 := Memref.whole cc0_stg0_0
abbrev bM : Memref sig .tc .vmem S512x1024 .f32 := Memref.whole cc0_stg1_0
abbrev oM : Memref sig .tc .vmem S1024x1024 .f32 := Memref.whole cc0_stg2_0
abbrev zM : Memref sig .tc .vmem S1024x1024 .f32 := Memref.whole cc0_scratch0
abbrev rM : Memref sig .tc .vmem S7x2x64x1024 .f32 := Memref.whole cc0_scratch1

/-- The barrier semaphore. -/
abbrev barS : Sem sig := (SemArray.scalar (sig.barrier 0 rfl) : Sems sig S_).sem

/-- The slot of peer `o` and half `h` among a semaphore array's fourteen. -/
theorem slot_inb (o : Fin 7) (h : Fin 2) : ∀ a, (![2 * o.val + h.val] : Fin 1 → Nat) a + S1.size a ≤ S14.size a := by
  revert o h; decide

/-- The semaphore of peer `o` and half `h` in the array `s`. -/
abbrev slotS (s : DmaSems sig S14) (o : Fin 7) (h : Fin 2) : DmaSem sig :=
  ((s.slice (Rect.unit (s := S14) ![2 * o.val + h.val] S1.size (slot_inb o h))).squeeze S_ squeezes_S1_S_).sem

/-- The landing slab of peer `o` and half `h` lies in the landing buffer. -/
theorem slab_inb (o : Fin 7) (h : Fin 2) :
    ∀ a, (![o.val, h.val, 0, 0] : Fin 4 → Nat) a + S1x1x64x1024.size a ≤ S7x2x64x1024.size a := by
  revert o h; decide

/-- The word of peer `o`'s distance and the word of half `h`'s first row. -/
abbrev oW (o : Fin 7) : BitVec 32 := BitVec.ofNat 32 (1 + o.val)
abbrev hW (h : Fin 2) : BitVec 32 := BitVec.ofNat 32 (64 * h.val)

/-- The rectangles the body names: the left factor's rows for peer `o`; the product's rows for peer `o`; the landing
    slab of peer `o`, half `h`; this device's rows of the left factor and of the product; the half `h` of those. -/
abbrev aRect (c : Dev nD) (o : Fin 7) : Rect S1024x512 :=
  Rect.unit (s := S1024x512) (k0_off1 c (oW o)) S128x512.size (k0_off1_inb c o)
abbrev bRect : Rect S512x1024 := Rect.unit (s := S512x1024) ![0, 0] S512x1024.size inb_S512x1024_S512x1024_0_0
abbrev zRect (c : Dev nD) (o : Fin 7) : Rect S1024x1024 :=
  Rect.unit (s := S1024x1024) (k0_off2 c (oW o)) S128x1024.size (k0_off2_inb c o)
abbrev slabRect (o : Fin 7) (h : Fin 2) : Rect S7x2x64x1024 :=
  Rect.unit (s := S7x2x64x1024) ![o.val, h.val, 0, 0] S1x1x64x1024.size (slab_inb o h)
abbrev aOwn (c : Dev nD) : Rect S1024x512 := Rect.unit (s := S1024x512) (k0_off4 c) S128x512.size (k0_off4_inb c)
abbrev zOwn (c : Dev nD) : Rect S1024x1024 := Rect.unit (s := S1024x1024) (k0_off5 c) S128x1024.size (k0_off5_inb c)
abbrev halfOwn (c : Dev nD) (h : Fin 2) : Rect S1024x1024 :=
  Rect.unit (s := S1024x1024) (k0_off6 c (hW h)) S64x1024.size (k0_off6_inb c h)

/-- The memrefs the transfers name: the half `h` of the product's rows for peer `o`, the landing slab of peer `o` and
    half `h`, and the half `h` of this device's rows of the result. -/
abbrev zHalf (c : Dev nD) (o : Fin 7) (h : Fin 2) : Memref sig .tc .vmem S64x1024 .f32 :=
  zM.slice (Rect.unit (s := S1024x1024) (k0_off3 c (oW o) (hW h)) S64x1024.size (k0_off3_inb c o h)) (fun _ => rfl)
abbrev slabM (o : Fin 7) (h : Fin 2) : Memref sig .tc .vmem S64x1024 .f32 :=
  (rM.slice (slabRect o h) (fun _ => rfl)).squeeze S64x1024 squeezes_S1x1x64x1024_S64x1024
abbrev oHalf (c : Dev nD) (h : Fin 2) : Memref sig .tc .vmem S64x1024 .f32 :=
  oM.slice (Rect.unit (s := S1024x1024) (k0_off7 c (hW h)) S64x1024.size (k0_off7_inb c h)) (fun _ => rfl)

/-- The peers, as the body computes them: at the signals, -/
abbrev sigDev (c : Dev nD) : Fin 7 → Dev nD
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩
/-- at the transfers of the partial products, -/
abbrev scatDev (c : Dev nD) : Fin 7 → Fin 2 → Dev nD
  | 0, 0 => ⟨k0_dev8 c, k0_dev8_lt c⟩ | 0, 1 => ⟨k0_dev9 c, k0_dev9_lt c⟩
  | 1, 0 => ⟨k0_dev10 c, k0_dev10_lt c⟩ | 1, 1 => ⟨k0_dev11 c, k0_dev11_lt c⟩
  | 2, 0 => ⟨k0_dev12 c, k0_dev12_lt c⟩ | 2, 1 => ⟨k0_dev13 c, k0_dev13_lt c⟩
  | 3, 0 => ⟨k0_dev14 c, k0_dev14_lt c⟩ | 3, 1 => ⟨k0_dev15 c, k0_dev15_lt c⟩
  | 4, 0 => ⟨k0_dev16 c, k0_dev16_lt c⟩ | 4, 1 => ⟨k0_dev17 c, k0_dev17_lt c⟩
  | 5, 0 => ⟨k0_dev18 c, k0_dev18_lt c⟩ | 5, 1 => ⟨k0_dev19 c, k0_dev19_lt c⟩
  | 6, 0 => ⟨k0_dev20 c, k0_dev20_lt c⟩ | 6, 1 => ⟨k0_dev21 c, k0_dev21_lt c⟩
/-- and at the transfers of the finished rows. -/
abbrev gathDev (c : Dev nD) : Fin 2 → Fin 7 → Dev nD
  | 0, 0 => ⟨k0_dev22 c, k0_dev22_lt c⟩ | 0, 1 => ⟨k0_dev23 c, k0_dev23_lt c⟩ | 0, 2 => ⟨k0_dev24 c, k0_dev24_lt c⟩
  | 0, 3 => ⟨k0_dev25 c, k0_dev25_lt c⟩ | 0, 4 => ⟨k0_dev26 c, k0_dev26_lt c⟩ | 0, 5 => ⟨k0_dev27 c, k0_dev27_lt c⟩
  | 0, 6 => ⟨k0_dev28 c, k0_dev28_lt c⟩
  | 1, 0 => ⟨k0_dev29 c, k0_dev29_lt c⟩ | 1, 1 => ⟨k0_dev30 c, k0_dev30_lt c⟩ | 1, 2 => ⟨k0_dev31 c, k0_dev31_lt c⟩
  | 1, 3 => ⟨k0_dev32 c, k0_dev32_lt c⟩ | 1, 4 => ⟨k0_dev33 c, k0_dev33_lt c⟩ | 1, 5 => ⟨k0_dev34 c, k0_dev34_lt c⟩
  | 1, 6 => ⟨k0_dev35 c, k0_dev35_lt c⟩

/-! ## The loops -/

/-- Seven rounds in turn, and two. -/
def seven (f : Fin 7 → P F PUnit) : P F PUnit :=
  f 0 >>= fun _ => f 1 >>= fun _ => f 2 >>= fun _ => f 3 >>= fun _ => f 4 >>= fun _ => f 5 >>= fun _ => f 6
def two (f : Fin 2 → P F PUnit) : P F PUnit := f 0 >>= fun _ => f 1

/-! ## The effects -/

/-- Tell peer `o` that this device has entered; wait until all seven peers have. -/
def tell (c : Dev nD) (o : Fin 7) : P F PUnit := semSignalWord (sigDev c o) barS 1#32
def meet : P F PUnit := semWaitWord barS 7#32

/-- The partial product of the rows for peer `o`, and that of this device's own rows. -/
def mulFor (c : Dev nD) (o : Fin 7) : P F PUnit :=
  .op (.load aM (aRect c o).toLoadRect (View.loadsAt_vmem h_S128x512)) fun x =>
  .op (.load bM bRect.toLoadRect (View.loadsAt_vmem h_S512x1024)) fun y =>
  .op (.load zM (zRect c o).toLoadRect (View.loadsAt_vmem h_S128x1024)) fun _ =>
  .op (.store zM (zRect c o) (k0_pay1 x y) Finset.univ (View.stores_vmem_bits_univ h_S128x1024 rfl) (.inl rfl)) .ret
def mulOwn (c : Dev nD) : P F PUnit :=
  .op (.load aM (aOwn c).toLoadRect (View.loadsAt_vmem h_S128x512)) fun x =>
  .op (.load bM bRect.toLoadRect (View.loadsAt_vmem h_S512x1024)) fun y =>
  .op (.load zM (zOwn c).toLoadRect (View.loadsAt_vmem h_S128x1024)) fun _ =>
  .op (.store zM (zOwn c) (k0_pay1 x y) Finset.univ (View.stores_vmem_bits_univ h_S128x1024 rfl) (.inl rfl)) .ret

/-- Send the half `h` of the product's rows for peer `o` into that peer's slab. -/
def scat (c : Dev nD) (o : Fin 7) (h : Fin 2) : P F PUnit :=
  .op (.enqueueDma (zHalf c o h) (.remote (Dev.tc (scatDev c o h)) (slabM o h) (.dma (slotS cc0_scratch2 o h)))
    (.dma (slotS cc0_scratch3 o h)) (View.wordExact_bits rfl) ((View.wordExact_bits rfl).reshape _ _)
    ⟨⟨rfl, Or.inl rfl⟩, trivial⟩) .ret
/-- Wait until peer `o`'s half `h` has landed in this device's slab. -/
def scatRecv (c : Dev nD) (o : Fin 7) (h : Fin 2) : P F PUnit :=
  .op (.waitDma2 (slotS cc0_scratch3 o h) (zHalf c o h) (slabM o h) (View.wordExact_bits rfl)
    ((View.wordExact_bits rfl).reshape _ _)) .ret
/-- Wait until the product's half has been read out. -/
def scatSent (c : Dev nD) (o : Fin 7) (h : Fin 2) : P F PUnit :=
  .op (.waitDma2 (slotS cc0_scratch2 o h) (slabM o h) (zHalf c o h) ((View.wordExact_bits rfl).reshape _ _)
    (View.wordExact_bits rfl)) .ret

/-- Read the own half and the seven slabs of the half `h`, and go on with what was read. -/
abbrev readSlab {α : Type} (o : Fin 7) (h : Fin 2) (k : Vec F S1x1x64x1024 .f32 → P F α) : P F α :=
  .op (.load rM (slabRect o h).toLoadRect (View.loadsAt_vmem h_S1x1x64x1024)) k
/-- Add the seven slabs to the own half, apply the activation, and store into the result's half. -/
def finish (c : Dev nD) (h : Fin 2) : P F PUnit :=
  .op (.load zM (halfOwn c h).toLoadRect (View.loadsAt_vmem h_S64x1024)) fun z =>
  readSlab 0 h fun s0 => readSlab 1 h fun s1 => readSlab 2 h fun s2 => readSlab 3 h fun s3 => readSlab 4 h fun s4 =>
  readSlab 5 h fun s5 => readSlab 6 h fun s6 =>
  .op (.load oM (halfOwn c h).toLoadRect (View.loadsAt_vmem h_S64x1024)) fun _ =>
  .op (.store oM (halfOwn c h) (k0_pay13 (k0_pay11 z s0 s1 s2 s3 s4 s5) (k0_pay12 s6)) Finset.univ
    (View.stores_vmem_bits_univ h_S64x1024 rfl) (.inl rfl)) .ret

/-- Send the finished half `h` to peer `o`; wait for one to land; wait until one has been read out. -/
def gath (c : Dev nD) (h : Fin 2) (o : Fin 7) : P F PUnit :=
  .op (.enqueueDma (oHalf c h) (.remote (Dev.tc (gathDev c h o)) (oHalf c h) (.dma (slotS cc0_scratch4 o h)))
    (.dma (slotS cc0_scratch5 o h)) (View.wordExact_bits rfl) (View.wordExact_bits rfl) ⟨⟨rfl, Or.inl rfl⟩, trivial⟩) .ret
def gathRecv (c : Dev nD) (h : Fin 2) (o : Fin 7) : P F PUnit :=
  .op (.waitDma2 (slotS cc0_scratch5 o h) (oHalf c h) (oHalf c h) (View.wordExact_bits rfl) (View.wordExact_bits rfl)) .ret
def gathSent (c : Dev nD) (h : Fin 2) (o : Fin 7) : P F PUnit :=
  .op (.waitDma2 (slotS cc0_scratch4 o h) (oHalf c h) (oHalf c h) (View.wordExact_bits rfl) (View.wordExact_bits rfl)) .ret

/-! ## The body -/

/-- The body on device `c`. -/
def run (c : Dev nD) : P F PUnit :=
  seven (tell c) >>= fun _ => meet >>= fun _ =>
  seven (fun o => mulFor c o >>= fun _ => two (scat c o)) >>= fun _ => mulOwn c >>= fun _ =>
  two (fun h => seven (fun o => scatRecv c o h) >>= fun _ => finish c h >>= fun _ => seven (gath c h)) >>= fun _ =>
  two (fun h => seven (gathRecv c h)) >>= fun _ => seven (fun o => two (scatSent c o)) >>= fun _ =>
  two (fun h => seven (gathSent c h))

set_option maxRecDepth 65536 in
set_option maxHeartbeats 4000000 in
/-- The printed body is the program in loops. -/
theorem body_eq :
    (cc0_body aM (Memref.isWhole_whole _) bM (Memref.isWhole_whole _) oM (Memref.isWhole_whole _) zM
      (Memref.isWhole_whole _) rM (Memref.isWhole_whole _) cc0_scratch2 cc0_scratch3 cc0_scratch4 cc0_scratch5 : P F PUnit)
      = .op .deviceId fun c => run c := by
  rfl

end Cert.Reduce

end
-- ==== Proof.Mesh.lean ====
/-
The ring of eight devices, and the pieces the kernel cuts its buffers into: which device is which peer of which, the
rectangles of rows in closed form, and how the sixteen half blocks of rows and the fourteen slabs tile their buffers.
-/
module

public import proofs.«01_k».proof.Proof.Prog
public import Idealize.ShloMosaic.Lib.ValueIdxCore

@[expose] public section

noncomputable section

namespace Cert.Reduce

open Cert.KernelIdeal Cert.KernelIdeal.Gen
open Idealize.ShloMosaic Idealize.SL.Sem
open Idealize.ShloMosaic.ValueIdx

/-! ## Peers -/

/-- A peer's number is a device's. -/
theorem peer_lt (c : Dev nD) (o : Fin 7) : (c.val + o.val + 1) % 8 < nD := Nat.mod_lt _ (by decide)

/-- The peer at distance `o + 1` from device `c`. -/
def peer (c : Dev nD) (o : Fin 7) : Dev nD := ⟨(c.val + o.val + 1) % 8, peer_lt c o⟩

/-- The distance back: a peer at distance `o + 1` sees this device at distance `back o + 1`. -/
def back (o : Fin 7) : Fin 7 := o.rev

/-- Looking back twice is looking ahead. -/
theorem back_back (o : Fin 7) : back (back o) = o := Fin.rev_rev o
/-- A device's peer has the device as its own peer at the opposite distance; -/
theorem peer_back (c : Dev nD) (o : Fin 7) : peer (peer c o) (back o) = c := by revert c o; decide
/-- and the other way round. -/
theorem back_peer (c : Dev nD) (o : Fin 7) : peer (peer c (back o)) o = c := by revert c o; decide
/-- A device isn't its own peer. -/
theorem peer_ne (c : Dev nD) (o : Fin 7) : peer c o ≠ c := by revert c o; decide
/-- Peers at different distances are different. -/
theorem peer_inj (c : Dev nD) {o o' : Fin 7} (h : peer c o = peer c o') : o = o' := by revert c o o'; decide

/-- Every device is this one or one of its peers, once. -/
theorem peer_cover (c e : Dev nD) : e = c ∨ ∃ o, e = peer c o := by revert c e; decide

/-- Moving every device to its peer at distance `o + 1` is a bijection. -/
def turn (o : Fin 7) : Dev nD ≃ Dev nD := ⟨fun c => peer c o, fun c => peer c (back o), fun c => peer_back c o, fun c => back_peer c o⟩

/-- Seeing the pair of a device and a distance from the other side is a bijection. -/
def flip : Dev nD × Fin 7 ≃ Dev nD × Fin 7 :=
  ⟨fun p => (peer p.1 p.2, back p.2), fun p => (peer p.1 p.2, back p.2),
    fun p => Prod.ext (peer_back _ _) (back_back _), fun p => Prod.ext (peer_back _ _) (back_back _)⟩

/-- The devices the body computes are those peers. -/
theorem sigDev_eq : ∀ (c : Dev nD) (o : Fin 7), sigDev c o = peer c o := by decide +kernel
/-- The transfers of the partial products go to the peer; -/
theorem scatDev_eq : ∀ (c : Dev nD) (o : Fin 7) (h : Fin 2), scatDev c o h = peer c o := by decide +kernel
/-- so do those of the finished halves. -/
theorem gathDev_eq : ∀ (c : Dev nD) (h : Fin 2) (o : Fin 7), gathDev c h o = peer c o := by decide +kernel

/-! ## The rectangles -/

/-- A half of a device's rows lies in the buffer; -/
theorem rows_inb : ∀ (e : Dev nD) (h : Fin 2) a, (![128 * e.val + 64 * h.val, 0] : Fin 2 → Nat) a + S64x1024.size a ≤ S1024x1024.size a := by
  decide +kernel
/-- a device's block of rows likewise; -/
theorem block_inb : ∀ (e : Dev nD) a, (![128 * e.val, 0] : Fin 2 → Nat) a + S128x1024.size a ≤ S1024x1024.size a := by decide +kernel
/-- and its block of the left factor's rows. -/
theorem ablk_inb : ∀ (e : Dev nD) a, (![128 * e.val, 0] : Fin 2 → Nat) a + S128x512.size a ≤ S1024x512.size a := by decide +kernel

/-- The half `h` of device `e`'s block of rows; the whole block; the block of the left factor. -/
abbrev rowsR (e : Dev nD) (h : Fin 2) : Rect S1024x1024 :=
  Rect.unit (s := S1024x1024) ![128 * e.val + 64 * h.val, 0] S64x1024.size (rows_inb e h)
abbrev blockR (e : Dev nD) : Rect S1024x1024 := Rect.unit (s := S1024x1024) ![128 * e.val, 0] S128x1024.size (block_inb e)
abbrev ablkR (e : Dev nD) : Rect S1024x512 := Rect.unit (s := S1024x512) ![128 * e.val, 0] S128x512.size (ablk_inb e)

/-- The half `h` of device `e`'s rows, of the product and of the result. -/
abbrev zRows (e : Dev nD) (h : Fin 2) : Memref sig .tc .vmem S64x1024 .f32 := zM.slice (rowsR e h) (fun _ => rfl)
abbrev oRows (e : Dev nD) (h : Fin 2) : Memref sig .tc .vmem S64x1024 .f32 := oM.slice (rowsR e h) (fun _ => rfl)

/-- The left factor's rows for a peer start at 128 times the peer's number; -/
theorem off1_eq : ∀ (c : Dev nD) (o : Fin 7), k0_off1 c (oW o) = ![128 * (peer c o).val, 0] := by decide +kernel
/-- the product's rows for it likewise; -/
theorem off2_eq : ∀ (c : Dev nD) (o : Fin 7), k0_off2 c (oW o) = ![128 * (peer c o).val, 0] := by decide +kernel
/-- and their half `h` 64 `h` rows further. -/
theorem off3_eq : ∀ (c : Dev nD) (o : Fin 7) (h : Fin 2), k0_off3 c (oW o) (hW h) = ![128 * (peer c o).val + 64 * h.val, 0] := by
  decide +kernel

/-- The rectangle of the left factor for a peer is that peer's block; -/
theorem aRect_eq (c : Dev nD) (o : Fin 7) : aRect c o = ablkR (peer c o) := Rect.unit_congr (off1_eq c o) _ _
/-- that of the product is that peer's block; -/
theorem zRect_eq (c : Dev nD) (o : Fin 7) : zRect c o = blockR (peer c o) := Rect.unit_congr (off2_eq c o) _ _
/-- what is sent to it is a half of that block. -/
theorem zHalf_eq (c : Dev nD) (o : Fin 7) (h : Fin 2) : zHalf c o h = zRows (peer c o) h :=
  Memref.slice_unit_congr _ (off3_eq c o h) _ _ _ _
/-- For the device itself the left factor's rectangle is its own block; -/
theorem aOwn_eq (c : Dev nD) : aOwn c = ablkR c := Rect.unit_congr (k0_off4_eq c) _ _
/-- the product's likewise; -/
theorem zOwn_eq (c : Dev nD) : zOwn c = blockR c := Rect.unit_congr (k0_off5_eq c) _ _
/-- a half of it is that half of its rows; -/
theorem halfOwn_eq (c : Dev nD) (h : Fin 2) : halfOwn c h = rowsR c h := Rect.unit_congr (k0_off6_eq c h) _ _
/-- and what it sends of the result is that half. -/
theorem oHalf_eq (c : Dev nD) (h : Fin 2) : oHalf c h = oRows c h := Memref.slice_unit_congr _ (k0_off7_eq c h) _ _ _ _

/-! ## The tilings -/

/-- A place is in device `e`'s half `h` when its row is. -/
theorem mem_rows (e : Dev nD) (h : Fin 2) (i : S1024x1024.Idx) :
    i ∈ (rowsR e h).set ↔ 128 * e.val + 64 * h.val ≤ (i 0).val ∧ (i 0).val < 128 * e.val + 64 * h.val + 64 := by
  rw [Rect.mem_set_unit]
  constructor
  · intro k; exact k 0
  · rintro ⟨k, k'⟩ a
    match a with
    | ⟨0, _⟩ => exact ⟨k, k'⟩
    | ⟨1, _⟩ => exact ⟨Nat.zero_le _, by have := idx2_lt1 (n0 := 1024) (n1 := 1024) i; show (i 1).val < 0 + 1024; omega⟩

/-- An element lies in a device's block when its row is one of that device's 128. -/
theorem mem_block (e : Dev nD) (i : S1024x1024.Idx) :
    i ∈ (blockR e).set ↔ 128 * e.val ≤ (i 0).val ∧ (i 0).val < 128 * e.val + 128 := by
  rw [Rect.mem_set_unit]
  constructor
  · intro k; exact k 0
  · rintro ⟨k, k'⟩ a
    match a with
    | ⟨0, _⟩ => exact ⟨k, k'⟩
    | ⟨1, _⟩ => exact ⟨Nat.zero_le _, by have := idx2_lt1 (n0 := 1024) (n1 := 1024) i; show (i 1).val < 0 + 1024; omega⟩

/-- A place of the landing buffer is in the slab of peer `o` and half `h` when its first two coordinates are. -/
theorem mem_slab (o : Fin 7) (h : Fin 2) (i : S7x2x64x1024.Idx) : i ∈ (slabRect o h).set ↔ i 0 = o ∧ i 1 = h := by
  rw [Rect.mem_set_unit]
  constructor
  · intro k
    have k0 := k 0; have k1 := k 1
    constructor
    · apply Fin.ext; have : o.val ≤ (i 0).val ∧ (i 0).val < o.val + 1 := k0; show (i 0).val = o.val; omega
    · apply Fin.ext; have : h.val ≤ (i 1).val ∧ (i 1).val < h.val + 1 := k1; show (i 1).val = h.val; omega
  · rintro ⟨k, k'⟩ a
    match a with
    | ⟨0, _⟩ => subst k; exact ⟨Nat.le_refl _, Nat.lt_succ_self _⟩
    | ⟨1, _⟩ => subst k'; exact ⟨Nat.le_refl _, Nat.lt_succ_self _⟩
    | ⟨2, _⟩ => exact ⟨Nat.zero_le _, by have : (i 2).val < 64 := (i 2).isLt; show (i 2).val < 0 + 64; omega⟩
    | ⟨3, _⟩ => exact ⟨Nat.zero_le _, by have : (i 3).val < 1024 := (i 3).isLt; show (i 3).val < 0 + 1024; omega⟩

/-- Different half blocks share no element. -/
theorem rows_disjoint (p q : Dev nD × Fin 2) (hne : p ≠ q) : Disjoint (rowsR p.1 p.2).set (rowsR q.1 q.2).set := by
  rw [Finset.disjoint_left]
  intro i hi hi'
  rw [mem_rows] at hi hi'
  have := p.2.isLt; have := q.2.isLt
  exact hne (Prod.ext (Fin.ext (by omega)) (Fin.ext (by omega)))

/-- Together the sixteen half blocks are the whole buffer. -/
theorem rows_cover : Finset.univ.biUnion (fun p : Dev nD × Fin 2 => (rowsR p.1 p.2).set) = Finset.univ := by
  ext i
  simp only [Finset.mem_biUnion, Finset.mem_univ, true_and, iff_true]
  have hi := idx2_lt0 (n0 := 1024) (n1 := 1024) i
  refine ⟨(⟨(i 0).val / 128, by show _ < 8; omega⟩, ⟨(i 0).val % 128 / 64, by omega⟩), ?_⟩
  rw [mem_rows]
  dsimp only
  omega

/-- Different slabs share no element. -/
theorem slab_disjoint (p q : Fin 7 × Fin 2) (hne : p ≠ q) : Disjoint (slabRect p.1 p.2).set (slabRect q.1 q.2).set := by
  rw [Finset.disjoint_left]
  intro i hi hi'
  rw [mem_slab] at hi hi'
  exact hne (Prod.ext (hi.1.symm.trans hi'.1) (hi.2.symm.trans hi'.2))

/-- Together the fourteen slabs are the whole landing buffer. -/
theorem slab_cover : Finset.univ.biUnion (fun p : Fin 7 × Fin 2 => (slabRect p.1 p.2).set) = Finset.univ := by
  ext i
  simp only [Finset.mem_biUnion, Finset.mem_univ, true_and, iff_true]
  exact ⟨(i 0, i 1), (mem_slab _ _ i).mpr ⟨rfl, rfl⟩⟩

/-- A block of rows is its two halves. -/
theorem block_halves (e : Dev nD) : (blockR e).set = Finset.univ.biUnion fun h : Fin 2 => (rowsR e h).set := by
  ext i
  simp only [Finset.mem_biUnion, Finset.mem_univ, true_and]
  rw [mem_block]
  constructor
  · rintro ⟨k, k'⟩
    refine ⟨⟨((i 0).val - 128 * e.val) / 64, by omega⟩, ?_⟩
    rw [mem_rows]; dsimp only; omega
  · rintro ⟨h, k⟩
    rw [mem_rows] at k
    have := h.isLt
    omega

/-- The element sets of the views the transfers name. -/
theorem zRows_set (e : Dev nD) (h : Fin 2) : (zRows e h).view.set = (rowsR e h).set := View.set_slice_whole _ _
/-- A half of the result touches exactly that half's elements. -/
theorem oRows_set (e : Dev nD) (h : Fin 2) : (oRows e h).view.set = (rowsR e h).set := View.set_slice_whole _ _
/-- A slab, seen as a matrix, touches exactly the slab's elements. -/
theorem slabM_set (o : Fin 7) (h : Fin 2) : (slabM o h).view.set = (slabRect o h).set :=
  (View.set_reshape _ _).trans (View.set_slice_whole _ _)

/-! ## The transfers' credit, the same for every piece -/

/-- The units a transfer of half a block of rows adds to its semaphore. -/
abbrev N : ℕ := (oRows 0 0).view.dmaCredit
/-- A transfer's credit is positive. -/
theorem N_pos : 0 < N := View.dmaCredit_pos _ (by decide)
/-- A transfer of a half of the result has that credit; -/
theorem credit_o (e : Dev nD) (h : Fin 2) : (oRows e h).view.dmaCredit = N := rfl
/-- one of a half of the product likewise; -/
theorem credit_z (e : Dev nD) (h : Fin 2) : (zRows e h).view.dmaCredit = N :=
  (by decide +kernel : (zRows 0 0).view.dmaCredit = N)
/-- and one into a slab. -/
theorem credit_slab (o : Fin 7) (h : Fin 2) : (slabM o h).view.dmaCredit = N :=
  (by decide +kernel : (slabM 0 0).view.dmaCredit = N)

end Cert.Reduce

end
-- ==== Proof.Contents.lean ====
/-
What every buffer holds, from the staged blocks `a c` (device `c`'s columns of the left factor) and `b c` (its rows of the
right factor): the partial product, what lands in the slabs, the finished half blocks of rows and the result — and that
each effect's write leaves exactly that on the elements it writes.
-/
module

public import proofs.«01_k».proof.Proof.Mesh
public import Idealize.ShloMosaic.Lib.ValueLayout

@[expose] public section

noncomputable section

namespace Cert.Reduce

open Cert.KernelIdeal Cert.KernelIdeal.Gen
open Idealize.ShloMosaic Idealize.SL.Sem
open Idealize.ShloMosaic.ValueIdx

variable {F : FTy → Type} [FloatOps F]

variable (a : Dev nD → Vec F S1024x512 .f32) (b : Dev nD → Vec F S512x1024 .f32)

/-! ## The functions -/

/-- Device `e`'s rows of device `c`'s columns of the left factor; the staged right factor, read whole. -/
def aRows (c e : Dev nD) : Vec F S128x512 .f32 := aM.view.readAt (Elt F) (ablkR e).toLoadRect (a c)
def bAll (c : Dev nD) : Vec F S512x1024 .f32 := bM.view.readAt (Elt F) bRect.toLoadRect (b c)

/-- Device `c`'s partial product of device `e`'s rows. -/
def part (c e : Dev nD) : Vec F S128x1024 .f32 := k0_pay1 (aRows a c e) (bAll b c)

/-- A row of the product is below 1024. -/
theorem row_lt (i : S1024x1024.Idx) : (i 0).val < 1024 := idx2_lt0 (n0 := 1024) (n1 := 1024) i

/-- The device whose block holds row `r`; the half of that block; the row within the block and within the half. -/
def devOf (r : Fin 1024) : Dev nD := ⟨r.val / 128, by have := r.isLt; show _ < 8; omega⟩
def halfOf (r : Fin 1024) : Fin 2 := ⟨r.val % 128 / 64, by omega⟩
def inBlock (r : Fin 1024) : Fin 128 := ⟨r.val % 128, by omega⟩
def inHalf (r : Fin 1024) : Fin 64 := ⟨r.val % 64, by omega⟩

/-- Device `c`'s partial product. -/
def zfin (c : Dev nD) : Vec F S1024x1024 .f32 := fun i => part a b c (devOf (i 0)) (ix2 (inBlock (i 0)) (i 1))

/-- Row `r` of device `c`'s half `h` is below 1024. -/
theorem landRow_lt (c : Dev nD) (h : Fin 2) (r : Fin 64) : 128 * c.val + 64 * h.val + r.val < 1024 := by
  have hc : c.val < 8 := c.isLt
  have := h.isLt; have := r.isLt; omega

/-- What lands in device `c`'s slabs: in slab `(o, h)` the half `h` of device `c`'s rows of the partial product of the
    peer that has `c` at distance `o + 1`. -/
def rfin (c : Dev nD) : Vec F S7x2x64x1024 .f32 := fun i =>
  zfin a b (peer c (back (i 0))) (ix2 ⟨128 * c.val + 64 * (i 1).val + (i 2).val, landRow_lt c (i 1) (i 2)⟩ (i 3))

/-- Slab `(o, h)` of what lands, as the body reads it, and the half `h` of device `c`'s own rows. -/
def slabIn (c : Dev nD) (h : Fin 2) (o : Fin 7) : Vec F S1x1x64x1024 .f32 :=
  rM.view.readAt (Elt F) (slabRect o h).toLoadRect (rfin a b c)
def ownIn (c : Dev nD) (h : Fin 2) : Vec F S64x1024 .f32 := zM.view.readAt (Elt F) (rowsR c h).toLoadRect (zfin a b c)

/-- The finished half `h` of device `c`'s rows. -/
def outPiece (c : Dev nD) (h : Fin 2) : Vec F S64x1024 .f32 :=
  k0_pay13 (k0_pay11 (ownIn a b c h) (slabIn a b c h 0) (slabIn a b c h 1) (slabIn a b c h 2) (slabIn a b c h 3)
    (slabIn a b c h 4) (slabIn a b c h 5)) (k0_pay12 (slabIn a b c h 6))

/-- The result, on every device. -/
def ofin : Vec F S1024x1024 .f32 := fun i => outPiece a b (devOf (i 0)) (halfOf (i 0)) (ix2 (inHalf (i 0)) (i 1))

/-! ## The writes -/

/-- Storing a block's partial product leaves the partial product on the block. -/
theorem write_block (c e : Dev nD) (f : Vec F S1024x1024 .f32) :
    ∀ i ∈ (blockR e).set, (zM.access (blockR e)).write (Elt F) f (part a b c e) Finset.univ i = zfin a b c i := by
  intro i hi
  obtain ⟨j, rfl⟩ := (blockR e).exists_idx_of_mem hi
  have hw := View.write_emb_of_mem (v := zM.access (blockR e)) (Val := Elt F) f (part a b c e) (M := Finset.univ) (x := j)
    (Finset.mem_univ _)
  refine Eq.trans hw ?_
  have h0 : (j 0).val < 128 := (j 0).isLt
  have he : e.val < 8 := e.isLt
  have e1 : devOf ((blockR e).idx j 0) = e := by
    apply Fin.ext; show (128 * e.val + 1 * (j 0).val) / 128 = e.val; omega
  have e2 : (ix2 (inBlock ((blockR e).idx j 0)) ((blockR e).idx j 1) : S128x1024.Idx) = j := by
    funext x
    match x with
    | ⟨0, _⟩ => apply Fin.ext; show (128 * e.val + 1 * (j 0).val) % 128 = (j 0).val; omega
    | ⟨1, _⟩ => apply Fin.ext; show 0 + 1 * (j 1).val = (j 1).val; omega
  show part a b c e j = part a b c (devOf ((blockR e).idx j 0)) _
  rw [e1, e2]

/-- Storing a finished half leaves the result on the half's rows. -/
theorem write_half (c : Dev nD) (h : Fin 2) (f : Vec F S1024x1024 .f32) :
    ∀ i ∈ (rowsR c h).set, (oM.access (rowsR c h)).write (Elt F) f (outPiece a b c h) Finset.univ i = ofin a b i := by
  intro i hi
  obtain ⟨j, rfl⟩ := (rowsR c h).exists_idx_of_mem hi
  have hw := View.write_emb_of_mem (v := oM.access (rowsR c h)) (Val := Elt F) f (outPiece a b c h) (M := Finset.univ) (x := j)
    (Finset.mem_univ _)
  refine Eq.trans hw ?_
  have h0 : (j 0).val < 64 := (j 0).isLt
  have he : c.val < 8 := c.isLt
  have hh : h.val < 2 := h.isLt
  have e1 : devOf ((rowsR c h).idx j 0) = c := by
    apply Fin.ext; show (128 * c.val + 64 * h.val + 1 * (j 0).val) / 128 = c.val; omega
  have e3 : halfOf ((rowsR c h).idx j 0) = h := by
    apply Fin.ext; show (128 * c.val + 64 * h.val + 1 * (j 0).val) % 128 / 64 = h.val; omega
  have e2 : (ix2 (inHalf ((rowsR c h).idx j 0)) ((rowsR c h).idx j 1) : S64x1024.Idx) = j := by
    funext x
    match x with
    | ⟨0, _⟩ => apply Fin.ext; show (128 * c.val + 64 * h.val + 1 * (j 0).val) % 64 = (j 0).val; omega
    | ⟨1, _⟩ => apply Fin.ext; show 0 + 1 * (j 1).val = (j 1).val; omega
  show outPiece a b c h j = outPiece a b (devOf ((rowsR c h).idx j 0)) (halfOf ((rowsR c h).idx j 0)) _
  rw [e1, e3, e2]

/-- A half sent to the same rows of another device's result holds there what it holds here. -/
theorem write_gath (d : Dev nD) (h : Fin 2) (f g : Vec F S1024x1024 .f32) :
    ∀ i ∈ (rowsR d h).set,
      (oRows d h).view.write (Elt F) f ((oRows d h).view.read (Elt F) g) Finset.univ i = g i := by
  intro i hi
  obtain ⟨j, rfl⟩ := (rowsR d h).exists_idx_of_mem hi
  exact View.write_emb_of_mem (v := (oRows d h).view) (Val := Elt F) f _ (M := Finset.univ) (x := j) (Finset.mem_univ _)

/-- The half sent to peer `o` holds in that peer's slab what lands there. -/
theorem write_scat (c : Dev nD) (o : Fin 7) (h : Fin 2) (f : Vec F S7x2x64x1024 .f32) :
    ∀ i ∈ (slabRect o h).set,
      (slabM o h).view.write (Elt F) f ((zRows (peer c o) h).view.read (Elt F) (zfin a b c)) Finset.univ i
        = rfin a b (peer c o) i := by
  intro i hi
  rw [← slabM_set] at hi
  obtain ⟨j, -, rfl⟩ := Finset.mem_map.mp hi
  rw [View.write_emb_of_mem (v := (slabM o h).view) (Val := Elt F) f _ (M := Finset.univ) (x := j) (Finset.mem_univ _)]
  have e0 : ((slabM o h).view.emb j : S7x2x64x1024.Idx) = ix4 o h (j 0) (j 1) := by
    have e : Shape.reshapeEquiv squeezes_S1x1x64x1024_S64x1024.numel_eq j
        = (ix4 (0 : Fin 1) (0 : Fin 1) (j 0 : Fin 64) (j 1 : Fin 1024) : S1x1x64x1024.Idx) :=
      (congrArg _ (eq_ix2 (n0 := 64) (n1 := 1024) j)).trans
        (reshapeEquiv_ix2_11ab (a := 64) (b := 1024) squeezes_S1x1x64x1024_S64x1024.numel_eq (j 0) (j 1))
    refine Eq.trans (congrArg (slabRect o h).emb e) ?_
    funext x
    match x with
    | ⟨0, _⟩ => rfl
    | ⟨1, _⟩ => rfl
    | ⟨2, _⟩ => apply Fin.ext; show 0 + 1 * (j 0).val = (j 0).val; omega
    | ⟨3, _⟩ => apply Fin.ext; show 0 + 1 * (j 1).val = (j 1).val; omega
  rw [e0]
  show zfin a b c ((rowsR (peer c o) h).idx j) = zfin a b (peer (peer c o) (back o)) _
  rw [peer_back]
  congr 1
  funext x
  match x with
  | ⟨0, _⟩ => apply Fin.ext; show 128 * (peer c o).val + 64 * h.val + 1 * (j 0).val = 128 * (peer c o).val + 64 * h.val + (j 0).val; omega
  | ⟨1, _⟩ => apply Fin.ext; show 0 + 1 * (j 1).val = (j 1).val; omega

end Cert.Reduce

end
-- ==== Proof.Schedule.lean ====
/-
The schedule of the kernel's cells, all of one round. A device's barrier cell has seven duties of one unit, one per peer,
each handing over that peer's two slabs and its two halves of rows this device will write; every transfer cell has one
duty of the transfer's credit, handing over what the transfer leaves. With it what every device owes as it goes, and the
levels that let it wait.
-/
module

public import proofs.«01_k».proof.Proof.Contents
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (a : Dev nD → Vec F S1024x512 .f32) (b : Dev nD → Vec F S512x1024 .f32)

/-! ## The cells -/

/-- The four arrays of transfer semaphores: a partial product read out, one landed, a finished half read out, one landed. -/
abbrev arrS : Fin 4 → DmaSems sig S14
  | 0 => cc0_scratch2 | 1 => cc0_scratch3 | 2 => cc0_scratch4 | 3 => cc0_scratch5

abbrev barCell (c : Dev nD) : GSem nD τ sig := ((c : Thread nD τ), .reg barS)
abbrev xSem (k : Fin 4) (o : Fin 7) (h : Fin 2) : DmaSem sig := slotS (arrS k) o h
abbrev xCell (k : Fin 4) (c : Dev nD) (o : Fin 7) (h : Fin 2) : GSem nD τ sig := ((c : Thread nD τ), .dma (xSem k o h))

/-- Which array, peer and half a transfer semaphore is of. -/
def roleOf (q : DmaSem sig) : Fin 4 × Fin 7 × Fin 2 :=
  (⟨(q.val - 3) / 14 % 4, by omega⟩, ⟨(q.val - 3) % 14 / 2, by omega⟩, ⟨(q.val - 3) % 2, by omega⟩)

/-- The role read off a semaphore is the role it has. -/
theorem roleOf_xSem : ∀ (k : Fin 4) (o : Fin 7) (h : Fin 2), roleOf (xSem k o h) = (k, o, h) := by decide +kernel

/-- Semaphores of different roles are different. -/
theorem xSem_inj {k k' : Fin 4} {o o' : Fin 7} {h h' : Fin 2} (e : xSem k o h = xSem k' o' h') : (k, o, h) = (k', o', h') := by
  rw [← roleOf_xSem k o h, ← roleOf_xSem k' o' h', e]

/-! ## The pieces -/

abbrev zLoc (c : Dev nD) : Loc nD τ sig := (c : Thread nD τ).loc cc0_scratch0
abbrev rLoc (c : Dev nD) : Loc nD τ sig := (c : Thread nD τ).loc cc0_scratch1
abbrev oLoc (c : Dev nD) : Loc nD τ sig := (c : Thread nD τ).loc cc0_stg2_0

/-- The share of its own finished half a device reads peer `o`'s transfer from; one of eight is kept back. -/
abbrev readShare (o : Fin 7) : PosShare TreeShare := ShareLeaves.leaf 3 fullShare ⟨o.val, by have := o.isLt; omega⟩
abbrev keptShare : PosShare TreeShare := ShareLeaves.leaf 3 fullShare ⟨7, by decide⟩

/-- The half `h` of device `e`'s rows of device `c`'s product; slab `(o, h)` of device `c`; the half `h` of device `e`'s
    rows of device `c`'s result. -/
def zAt (c e : Dev nD) (h : Fin 2) (f : Vec F S1024x1024 .f32) : sProp 𝕄 := zLoc c ↦[(rowsR e h).set]{fullShare} f
def rAt (c : Dev nD) (o : Fin 7) (h : Fin 2) (f : Vec F S7x2x64x1024 .f32) : sProp 𝕄 := rLoc c ↦[(slabRect o h).set]{fullShare} f
def oAt (c e : Dev nD) (h : Fin 2) (q : PosShare TreeShare) (f : Vec F S1024x1024 .f32) : sProp 𝕄 := oLoc c ↦[(rowsR e h).set]{q} f

omit [FloatOps F] in
instance zAt_storable (c e : Dev nD) (h : Fin 2) (f : Vec F S1024x1024 .f32) : BI.Storable (upEmb : UEmb _ 𝕄) (zAt c e h f) := by
  unfold zAt; infer_instance
omit [FloatOps F] in
instance rAt_storable (c : Dev nD) (o : Fin 7) (h : Fin 2) (f : Vec F S7x2x64x1024 .f32) :
    BI.Storable (upEmb : UEmb _ 𝕄) (rAt c o h f) := by
  unfold rAt; infer_instance
omit [FloatOps F] in
instance oAt_storable (c e : Dev nD) (h : Fin 2) (q : PosShare TreeShare) (f : Vec F S1024x1024 .f32) :
    BI.Storable (upEmb : UEmb _ 𝕄) (oAt c e h q f) := by
  unfold oAt; infer_instance

/-! ## The payloads -/

/-- What peer `d` hands device `c` as it enters: the slabs and the rows of its own that `c` will write. -/
def barPay (c : Dev nD) (d : Fin 7) : sProp 𝕄 :=
  bigSep Finset.univ fun h : Fin 2 => iprop((∃ f, rAt (peer c d) d h f) ∗ ∃ f, oAt (peer c d) c h fullShare f)

/-- What a transfer leaves, by its cell's role: the rows of the product read out; the slab landed; the share of the
    finished half read out; the half landed from the peer that has this device at distance `o + 1`. -/
def xPay (c : Dev nD) (k : Fin 4) (o : Fin 7) (h : Fin 2) : sProp 𝕄 :=
  match k with
  | 0 => zAt c (peer c o) h (zfin a b c)
  | 1 => rAt c o h (rfin a b c)
  | 2 => oAt c c h (readShare o) (ofin a b)
  | 3 => oAt c (peer c (back o)) h fullShare (ofin a b)

omit [FloatOps F] in
instance barPay_storable (c : Dev nD) (d : Fin 7) : BI.Storable (upEmb : UEmb _ 𝕄) (barPay c d) := by unfold barPay; infer_instance
instance xPay_storable (c : Dev nD) (k : Fin 4) (o : Fin 7) (h : Fin 2) : BI.Storable (upEmb : UEmb _ 𝕄) (xPay a b c k o h) := by
  unfold xPay; split <;> infer_instance

/-- The schedule. -/
def sched : Rounds.Schedule (GSem nD τ sig) (Fin 7) 𝕄 where
  duties g r := if r = 0 then (match g.2 with | .reg _ => Finset.univ | .dma _ => {0}) else ∅
  unitless _ := False
  amount g _ _ := match g.2 with | .reg _ => 1 | .dma _ => N
  payload g _ d := match g.2 with
    | .reg _ => barPay g.1.1 d
    | .dma q => xPay a b g.1.1 (roleOf q).1 (roleOf q).2.1 (roleOf q).2.2
  amount_pos g _ _ _ := by
    split
    · exact Nat.one_pos
    · exact N_pos

instance sched_payload_storable (g : GSem nD τ sig) (r : ℕ) (d : Fin 7) :
    BI.Storable (upEmb : UEmb _ 𝕄) ((sched a b).payload g r d) := by
  show BI.Storable upEmb (match g.2 with
    | .reg _ => barPay g.1.1 d
    | .dma q => xPay a b g.1.1 (roleOf q).1 (roleOf q).2.1 (roleOf q).2.2)
  split <;> infer_instance

section Sched
variable (c : Dev nD) (k : Fin 4) (o : Fin 7) (h : Fin 2)

/-- The barrier's round has seven duties; -/
theorem duties_bar : (sched (F := F) a b).duties (barCell c) 0 = Finset.univ := rfl
/-- a transfer cell's has one; -/
theorem duties_x : (sched (F := F) a b).duties (xCell k c o h) 0 = {0} := rfl
/-- later rounds have none. -/
theorem duties_later (g : GSem nD τ sig) : ∀ r, 1 ≤ r → (sched (F := F) a b).duties g r = ∅ :=
  fun r hr => if_neg (by omega)

/-- What a peer's signal on the barrier hands over; -/
theorem payload_bar (d : Fin 7) : (sched (F := F) a b).payload (barCell c) 0 d = barPay c d := rfl
/-- and what a transfer hands over. -/
theorem payload_x (d : Fin 7) : (sched (F := F) a b).payload (xCell k c o h) 0 d = xPay a b c k o h := by
  show xPay a b c (roleOf (xSem k o h)).1 (roleOf (xSem k o h)).2.1 (roleOf (xSem k o h)).2.2 = _
  rw [roleOf_xSem]

/-- A barrier's round is seven units; -/
theorem expect_bar : (sched (F := F) a b).expect (barCell c) 0 = 7 := by
  unfold Schedule.expect Schedule.amountOf
  rw [duties_bar]
  exact (Finset.sum_const 1).trans (by simp)
/-- a transfer cell's is the transfer's credit. -/
theorem expect_x : (sched (F := F) a b).expect (xCell k c o h) 0 = N := by
  unfold Schedule.expect Schedule.amountOf
  rw [duties_x, Finset.sum_singleton]
  rfl

/-- What a round leaves when none of its duties was taken early. -/
theorem rest_bar : bigSep ((sched (F := F) a b).duties (barCell c) 0 \ ∅) (fun d => (sched (F := F) a b).payload (barCell c) 0 d)
    = bigSep Finset.univ fun d => barPay c d := by
  rw [Finset.sdiff_empty, duties_bar]; rfl
/-- A transfer cell's round, likewise. -/
theorem rest_x : bigSep ((sched (F := F) a b).duties (xCell k c o h) 0 \ ∅) (fun d => (sched (F := F) a b).payload (xCell k c o h) 0 d)
    = xPay a b c k o h := by
  rw [Finset.sdiff_empty, duties_x, bigSep_singleton, payload_x]

end Sched

/-! ## What a device owes as it goes -/

/-- The places of an index at or after the `n`-th. -/
def from' {I : Type} [Fintype I] (idx : I → ℕ) (n : ℕ) : Finset I := Finset.univ.filter fun i => n ≤ idx i

/-- The places from one on are that place and those after it. -/
theorem from'_step {I : Type} [Fintype I] [DecidableEq I] {idx : I → ℕ} (hidx : Function.Injective idx) (i : I) :
    from' idx (idx i) = insert i (from' idx (idx i + 1)) := by
  ext j
  simp only [from', Finset.mem_filter, Finset.mem_univ, true_and, Finset.mem_insert]
  constructor
  · intro hj
    rcases Nat.lt_or_ge (idx i) (idx j) with hlt | hge
    · exact Or.inr hlt
    · exact Or.inl (hidx (Nat.le_antisymm hge hj))
  · rintro (rfl | hj)
    · exact Nat.le_refl _
    · omega

/-- A place isn't among those after it. -/
theorem not_mem_from' {I : Type} [Fintype I] (idx : I → ℕ) (i : I) : i ∉ from' idx (idx i + 1) := by
  simp only [from', Finset.mem_filter, Finset.mem_univ, true_and]; omega

/-- From the start on come all the places; -/
theorem from'_zero {I : Type} [Fintype I] (idx : I → ℕ) : from' idx 0 = Finset.univ := by
  simp [from']

/-- past the last, none. -/
theorem from'_end {I : Type} [Fintype I] (idx : I → ℕ) (n : ℕ) (hn : ∀ i, idx i < n) : from' idx n = ∅ := by
  ext i; simp only [from', Finset.mem_filter, Finset.mem_univ, true_and, Finset.notMem_empty, iff_false]
  have := hn i; omega

/-- The order in which the peers are told, the partial products sent, and the finished halves sent. -/
abbrev tellIx (o : Fin 7) : ℕ := o.val
abbrev scatIx (p : Fin 7 × Fin 2) : ℕ := 2 * p.1.val + p.2.val
abbrev gathIx (p : Fin 7 × Fin 2) : ℕ := 7 * p.2.val + p.1.val
/-- Different peers are told at different times; -/
theorem tellIx_inj : Function.Injective tellIx := Fin.val_injective
/-- different partial products sent at different times; -/
theorem scatIx_inj : Function.Injective scatIx := by
  rintro ⟨o, h⟩ ⟨o', h'⟩ e
  have e : 2 * o.val + h.val = 2 * o'.val + h'.val := e
  have := h.isLt; have := h'.isLt
  exact Prod.ext (Fin.ext (show o.val = o'.val by omega)) (Fin.ext (show h.val = h'.val by omega))
/-- different finished halves likewise. -/
theorem gathIx_inj : Function.Injective gathIx := by
  rintro ⟨o, h⟩ ⟨o', h'⟩ e
  have e : 7 * h.val + o.val = 7 * h'.val + o'.val := e
  have := o.isLt; have := o'.isLt
  exact Prod.ext (Fin.ext (show o.val = o'.val by omega)) (Fin.ext (show h.val = h'.val by omega))

/-- Owed to the peers' barriers after `n` were told; to their slabs' cells after `n` sends; to their results' cells. -/
def barOwed (c : Dev nD) (n : ℕ) : CellTallies nD τ sig Unit := ∑ o ∈ from' tellIx n, tallyAt (barCell (peer c o)) () 1
def landOwed (c : Dev nD) (n : ℕ) : CellTallies nD τ sig Unit :=
  ∑ p ∈ from' scatIx n, tallyAt (xCell 1 (peer c p.1) p.1 p.2) () N
def gotOwed (c : Dev nD) (n : ℕ) : CellTallies nD τ sig Unit :=
  ∑ p ∈ from' gathIx n, tallyAt (xCell 3 (peer c p.1) p.1 p.2) () N

/-- All of it. -/
def owed (c : Dev nD) (i j k : ℕ) : CellTallies nD τ sig Unit := gotOwed c k + landOwed c j + barOwed c i

/-- What is owed before telling peer `o` is what is owed after, and that signal; -/
theorem owed_tell (c : Dev nD) (o : Fin 7) (j k : ℕ) : owed c o.val j k = owed c (o.val + 1) j k + tallyAt (barCell (peer c o)) () 1 := by
  unfold owed barOwed
  rw [show from' tellIx o.val = _ from from'_step tellIx_inj o, Finset.sum_insert (not_mem_from' tellIx o),
    add_comm (tallyAt (barCell (peer c o)) () 1), ← add_assoc]
/-- before sending a partial product, that transfer besides; -/
theorem owed_scat (c : Dev nD) (o : Fin 7) (h : Fin 2) (i k : ℕ) :
    owed c i (2 * o.val + h.val) k = owed c i (2 * o.val + h.val + 1) k + tallyAt (xCell 1 (peer c o) o h) () N := by
  unfold owed landOwed
  rw [show from' scatIx (2 * o.val + h.val) = _ from from'_step scatIx_inj (o, h), Finset.sum_insert (not_mem_from' scatIx (o, h)),
    add_comm (tallyAt (xCell 1 (peer c o) o h) () N), ← add_assoc, add_right_comm]
/-- before sending a finished half, that transfer besides. -/
theorem owed_gath (c : Dev nD) (o : Fin 7) (h : Fin 2) (i j : ℕ) :
    owed c i j (7 * h.val + o.val) = owed c i j (7 * h.val + o.val + 1) + tallyAt (xCell 3 (peer c o) o h) () N := by
  unfold owed gotOwed
  rw [show from' gathIx (7 * h.val + o.val) = _ from from'_step gathIx_inj (o, h), Finset.sum_insert (not_mem_from' gathIx (o, h)),
    add_comm (tallyAt (xCell 3 (peer c o) o h) () N), add_right_comm _ _ (landOwed c j), add_right_comm _ _ (barOwed c i)]

/-- After the seven signals nothing is owed to a barrier; -/
theorem barOwed_end (c : Dev nD) : barOwed c 7 = 0 := by
  unfold barOwed; rw [from'_end _ _ (fun i => i.isLt), Finset.sum_empty]
/-- after the fourteen partial products nothing to a slab; -/
theorem landOwed_end (c : Dev nD) : landOwed c 14 = 0 := by
  unfold landOwed
  rw [from'_end _ _ (fun p => by have := p.1.isLt; have := p.2.isLt; show 2 * p.1.val + p.2.val < 14; omega), Finset.sum_empty]
/-- after the fourteen finished halves nothing to a result; -/
theorem gotOwed_end (c : Dev nD) : gotOwed c 14 = 0 := by
  unfold gotOwed
  rw [from'_end _ _ (fun p => by have := p.1.isLt; have := p.2.isLt; show 7 * p.2.val + p.1.val < 14; omega), Finset.sum_empty]
/-- and then nothing at all. -/
theorem owed_end (c : Dev nD) : owed c 7 14 14 = 0 := by
  unfold owed; rw [barOwed_end, landOwed_end, gotOwed_end, add_zero, add_zero]

/-! ## The levels -/

def L (g : GSem nD τ sig) : Finset Unit := if g.1.2 = .tc then {()} else ∅
/-- Barrier cells at one, slab cells at two, result cells at three, the others at zero. -/
def lv (g : GSem nD τ sig) (_ : Unit) : ℕ := match g.2 with
  | .reg _ => 1
  | .dma q => match (roleOf q).1 with | 0 => 0 | 1 => 2 | 2 => 0 | 3 => 3

/-- Cells of other cores have no level; -/
theorem L_of_ne (g : GSem nD τ sig) (h : g.1.2 ≠ .tc) : L g = ∅ := if_neg h
/-- those of a device's own core have one. -/
theorem L_tc (c : Dev nD) (sm : SemLoc sig) : L ((c : Thread nD τ), sm) = {()} := if_pos rfl
/-- A barrier is at level one; -/
theorem lv_bar (c : Dev nD) : lv (barCell c) () = 1 := rfl
/-- a transfer cell at its role's level. -/
theorem lv_x (k : Fin 4) (c : Dev nD) (o : Fin 7) (h : Fin 2) :
    lv (xCell k c o h) () = match k with | 0 => 0 | 1 => 2 | 2 => 0 | 3 => 3 := by
  show (match (roleOf (xSem k o h)).1 with | 0 => 0 | 1 => 2 | 2 => 0 | 3 => 3) = _
  rw [roleOf_xSem]

/-- A sum of single debts is positive only at one of their cells. -/
theorem sum_tally_pos {I : Type} (s : Finset I) (cell : I → GSem nD τ sig) (n : ℕ) {g : GSem nD τ sig} {u : Unit}
    (hp : 0 < (∑ i ∈ s, tallyAt (cell i) () n : CellTallies nD τ sig Unit) g u) : ∃ i ∈ s, g = cell i := by
  classical
  by_contra hn
  have : (∑ i ∈ s, tallyAt (cell i) () n : CellTallies nD τ sig Unit) g u = 0 := by
    rw [Finset.sum_apply, Finsupp.finsetSum_apply]
    refine Finset.sum_eq_zero fun i hi => ?_
    rw [tallyAt_apply, if_neg (fun e => hn ⟨i, hi, e.1⟩)]
  omega

/-- Whatever is still owed is owed to a peer's result, a peer's slab or a peer's barrier that has not been served. -/
theorem owed_pos {c : Dev nD} {i j k : ℕ} {g : GSem nD τ sig} {u : Unit} (hp : 0 < owed c i j k g u) :
    (∃ p ∈ from' gathIx k, g = xCell 3 (peer c p.1) p.1 p.2) ∨ (∃ p ∈ from' scatIx j, g = xCell 1 (peer c p.1) p.1 p.2)
      ∨ ∃ o ∈ from' tellIx i, g = barCell (peer c o) := by
  have hs : owed c i j k g u = gotOwed c k g u + landOwed c j g u + barOwed c i g u := rfl
  rw [hs] at hp
  by_cases h1 : 0 < gotOwed c k g u
  · exact Or.inl (sum_tally_pos _ (fun p : Fin 7 × Fin 2 => xCell 3 (peer c p.1) p.1 p.2) N h1)
  by_cases h2 : 0 < landOwed c j g u
  · exact Or.inr (Or.inl (sum_tally_pos _ (fun p : Fin 7 × Fin 2 => xCell 1 (peer c p.1) p.1 p.2) N h2))
  · exact Or.inr (Or.inr (sum_tally_pos _ (fun o : Fin 7 => barCell (peer c o)) 1 (show 0 < barOwed c i g u by omega)))

/-- A device may wait on a cell below everything it still owes. -/
theorem mayWait_of (c : Dev nD) (sm : SemLoc sig) (n i j k : ℕ) (hn : lv ((c : Thread nD τ), sm) () ≤ n)
    (h3 : n < 3) (h2 : n < 2 ∨ 14 ≤ j) (h1 : n < 1 ∨ 7 ≤ i) :
    (levAts L lv : sProp 𝕄) ⊢ MayWait (c : Thread nD τ) sm () (owed c i j k) :=
  MayOwe.of_cut (L := L) (lev := lv) n (fun p hp => by rw [Finset.mem_singleton.mp hp, L_tc]; exact Finset.mem_singleton_self _)
    (fun g u hg => by
      rcases owed_pos hg with ⟨p, -, rfl⟩ | ⟨p, -, rfl⟩ | ⟨o, -, rfl⟩ <;> (rw [L_tc]; exact Finset.mem_singleton_self _))
    (fun p hp => by rw [Finset.mem_singleton.mp hp]; exact hn)
    (fun g u hg => by
      rcases owed_pos hg with ⟨p, -, rfl⟩ | ⟨p, hp, rfl⟩ | ⟨o, ho, rfl⟩
      · rw [lv_x]; exact h3
      · rw [lv_x]
        refine h2.resolve_right fun h => ?_
        have := (Finset.mem_filter.mp hp).2
        have := p.1.isLt; have := p.2.isLt
        have : j ≤ 2 * p.1.val + p.2.val := (Finset.mem_filter.mp hp).2
        omega
      · rw [lv_bar]
        refine h1.resolve_right fun h => ?_
        have : i ≤ o.val := (Finset.mem_filter.mp ho).2
        have := o.isLt
        omega)

end Cert.Reduce

end
-- ==== Proof.Steps.lean ====
/-
One effect at a time: what each of the kernel's effects takes and leaves, stated once for every device, peer and half;
and the rules of the two loops.
-/
module

public import proofs.«01_k».proof.Proof.Schedule

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1024x512 .f32) (b : Dev nD → Vec F S512x1024 .f32)

abbrev 𝒱₀ : Variants := Variants.none

/-- Device `c` runs `p`, to leave `Q`. -/
abbrev runs (c : Dev nD) (p : P F PUnit) (Q : sProp 𝕄) : sProp 𝕄 :=
  wp frame (wpE (defs₀ (F := F)) 𝒱₀ (c : Thread nD τ) none) Set.univ p (fun _ => Q)

/-! ## The loops -/

/-- A part of a program by what it takes and leaves. -/
theorem part_step {c : Dev nD} {p q : P F PUnit} {A B Q : sProp 𝕄} (h : A ⊢ runs c p B) :
    A ⊢ iprop((B -∗ runs c q Q) -∗ runs c (p >>= fun _ => q) Q) := by
  iintro HA Hk
  simp only [runs, wp_bind]
  iapply (wp_wand_r (Fr := frame) (wpE := wpE (defs₀ (F := F)) 𝒱₀ (c : Thread nD τ) none) (E := Set.univ) (p := p) (Q := fun _ => B))
  isplitl [HA]
  · iapply h; iexact HA
  · iintro %x HB; iapply Hk; iexact HB

/-- The last part. -/
theorem last_step {c : Dev nD} {p : P F PUnit} {A B Q : sProp 𝕄} (h : A ⊢ runs c p B) : A ⊢ iprop((B -∗ Q) -∗ runs c p Q) := by
  iintro HA Hk
  iapply (wp_wand_r (Fr := frame) (wpE := wpE (defs₀ (F := F)) 𝒱₀ (c : Thread nD τ) none) (E := Set.univ) (p := p) (Q := fun _ => B))
  isplitl [HA]
  · iapply h; iexact HA
  · iintro %x HB; iapply Hk; iexact HB

omit [FloatOps F] in
/-- An assertion for each of seven, written out; -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- and for each of two. -/
theorem bigSep_two (Φ : Fin 2 → sProp 𝕄) : bigSep Finset.univ Φ = iprop(Φ 0 ∗ Φ 1) :=
  bigSep_univ_eq_bigSepL [0, 1] (by decide) (by decide) Φ

/-- Seven rounds, each taking the state `R` on by one and turning its own share `A o` into `B o`. -/
theorem seven_each {c : Dev nD} {f : Fin 7 → P F PUnit} (R : ℕ → sProp 𝕄) (A B : Fin 7 → sProp 𝕄)
    (h : ∀ o : Fin 7, iprop(R o.val ∗ A o) ⊢ runs c (f o) iprop(R (o.val + 1) ∗ B o)) :
    iprop(R 0 ∗ bigSep Finset.univ A) ⊢ runs c (seven f) iprop(R 7 ∗ bigSep Finset.univ B) := by
  rw [bigSep_seven, bigSep_seven]
  unfold seven
  have h0 : iprop(R 0 ∗ A 0) ⊢ runs c (f 0) iprop(R 1 ∗ B 0) := h 0
  have h1 : iprop(R 1 ∗ A 1) ⊢ runs c (f 1) iprop(R 2 ∗ B 1) := h 1
  have h2 : iprop(R 2 ∗ A 2) ⊢ runs c (f 2) iprop(R 3 ∗ B 2) := h 2
  have h3 : iprop(R 3 ∗ A 3) ⊢ runs c (f 3) iprop(R 4 ∗ B 3) := h 3
  have h4 : iprop(R 4 ∗ A 4) ⊢ runs c (f 4) iprop(R 5 ∗ B 4) := h 4
  have h5 : iprop(R 5 ∗ A 5) ⊢ runs c (f 5) iprop(R 6 ∗ B 5) := h 5
  have h6 : iprop(R 6 ∗ A 6) ⊢ runs c (f 6) iprop(R 7 ∗ B 6) := h 6
  iintro ⟨HR, H0, H1, H2, H3, H4, H5, H6⟩
  iapply (part_step h0) $$ [HR H0]
  · isplitl [HR] <;> iassumption
  iintro ⟨HR, H0⟩
  iapply (part_step h1) $$ [HR H1]
  · isplitl [HR] <;> iassumption
  iintro ⟨HR, H1⟩
  iapply (part_step h2) $$ [HR H2]
  · isplitl [HR] <;> iassumption
  iintro ⟨HR, H2⟩
  iapply (part_step h3) $$ [HR H3]
  · isplitl [HR] <;> iassumption
  iintro ⟨HR, H3⟩
  iapply (part_step h4) $$ [HR H4]
  · isplitl [HR] <;> iassumption
  iintro ⟨HR, H4⟩
  iapply (part_step h5) $$ [HR H5]
  · isplitl [HR] <;> iassumption
  iintro ⟨HR, H5⟩
  iapply (last_step h6) $$ [HR H6]
  · isplitl [HR] <;> iassumption
  iintro ⟨HR, H6⟩
  isplitl [HR]; · iexact HR
  isplitl [H0]; · iexact H0
  isplitl [H1]; · iexact H1
  isplitl [H2]; · iexact H2
  isplitl [H3]; · iexact H3
  isplitl [H4]; · iexact H4
  isplitl [H5] <;> iassumption

/-- Two rounds likewise. -/
theorem two_each {c : Dev nD} {f : Fin 2 → P F PUnit} (R : ℕ → sProp 𝕄) (A B : Fin 2 → sProp 𝕄)
    (h : ∀ o : Fin 2, iprop(R o.val ∗ A o) ⊢ runs c (f o) iprop(R (o.val + 1) ∗ B o)) :
    iprop(R 0 ∗ bigSep Finset.univ A) ⊢ runs c (two f) iprop(R 2 ∗ bigSep Finset.univ B) := by
  rw [bigSep_two, bigSep_two]
  unfold two
  have h0 : iprop(R 0 ∗ A 0) ⊢ runs c (f 0) iprop(R 1 ∗ B 0) := h 0
  have h1 : iprop(R 1 ∗ A 1) ⊢ runs c (f 1) iprop(R 2 ∗ B 1) := h 1
  iintro ⟨HR, H0, H1⟩
  iapply (part_step h0) $$ [HR H0]
  · isplitl [HR] <;> iassumption
  iintro ⟨HR, H0⟩
  iapply (last_step h1) $$ [HR H1]
  · isplitl [HR] <;> iassumption
  iintro ⟨HR, H1⟩
  isplitl [HR]; · iexact HR
  isplitl [H0] <;> iassumption

/-! ## The records every device shares -/

/-- The cells of one device: its barrier and its transfer cells. -/
abbrev CellIx : Type := Option (Fin 4 × Fin 7 × Fin 2)
abbrev cellAt (c : Dev nD) : CellIx → GSem nD τ sig
  | none => barCell c
  | some (k, o, h) => xCell k c o h

/-- The invariants of all cells, that all their first rounds are open, and the levels. -/
def records (K : Dev nD × CellIx → ℕ) : sProp 𝕄 :=
  iprop((bigSep Finset.univ fun p : Dev nD × CellIx => cellInv ER (sched a b) (K p) (cellAt p.1 p.2))
    ∗ (bigSep Finset.univ fun p : Dev nD × CellIx => reached ER (cellAt p.1 p.2) 0) ∗ levAts L lv)

instance records_persistent (K : Dev nD × CellIx → ℕ) : BI.Persistent (records a b K) := by unfold records; infer_instance

variable (K : Dev nD × CellIx → ℕ)

/-- The records hold every cell's invariant; -/
theorem inv_of (c : Dev nD) (x : CellIx) : records a b K ⊢ cellInv ER (sched a b) (K (c, x)) (cellAt c x) := by
  unfold records
  iintro ⟨H, -, -⟩
  iapply (show (bigSep Finset.univ fun p : Dev nD × CellIx => cellInv ER (sched a b) (K p) (cellAt p.1 p.2))
    ⊢ cellInv ER (sched a b) (K (c, x)) (cellAt c x) from bigSep_elim (Finset.mem_univ (c, x)))
  iexact H
/-- that every cell is at its first round; -/
theorem reached_of (c : Dev nD) (x : CellIx) : records a b K ⊢ reached ER (cellAt c x) 0 := by
  unfold records
  iintro ⟨-, H, -⟩
  iapply (show (bigSep Finset.univ fun p : Dev nD × CellIx => (reached ER (cellAt p.1 p.2) 0 : sProp 𝕄))
    ⊢ reached ER (cellAt c x) 0 from bigSep_elim (Finset.mem_univ (c, x)))
  iexact H
/-- and the levels. -/
theorem levels_of : records a b K ⊢ levAts L lv := by
  unfold records
  iintro ⟨-, -, H⟩
  iexact H

/-- The records, and what device `c` owes. -/
def live (c : Dev nD) (O : CellTallies nD τ sig Unit) : sProp 𝕄 := iprop(records a b K ∗ ∃ W, owes (c : Thread nD τ) O W)

/-! ## The barrier -/

/-- Telling a peer pays one unit of its barrier, with the slabs and rows that peer will write. -/
theorem tell_runs (c : Dev nD) (o : Fin 7) :
    iprop(live a b K c (owed c o.val 0 0) ∗ dutyTok ER (barCell (peer c o)) 0 (back o) ∗ barPay (peer c o) (back o))
      ⊢ runs c (tell c o) (live a b K c (owed c (o.val + 1) 0 0)) := by
  unfold tell live
  rw [sigDev_eq]
  simp only [semSignalWord, Prog.lift, runs]
  iintro ⟨⟨#HR, %W, HO⟩, Ht, Hp⟩
  iapply (Rounds.wp_signal 𝒱₀ ER (sched a b) (c : Thread nD τ) none (dst := (peer c o : Thread nD τ)) (κ := K (peer c o, none))
      (r := 0) (d := back o) (by rw [duties_bar]; exact Finset.mem_univ _) (show (1 : ℕ) = (1#32 : BitVec 32).toNat by decide) ()
      (owed c (o.val + 1) 0 0) (owed_tell c o 0 0)) $$ [HO Ht Hp]
  · isplitr; · iapply (inv_of a b K (peer c o) none); iexact HR
    isplitl [HO]; · iexact HO
    isplitl [Ht]; · iexact Ht
    isplitl [Hp]; · rw [payload_bar]; iexact Hp
    iapply (reached_of a b K (peer c o) none); iexact HR
  iintro HO
  rw [wp_ret]; imodintro
  isplitr; · iexact HR
  iexists W; iexact HO

/-- At the barrier the peers' slabs and rows come in. -/
theorem meet_runs (c : Dev nD) :
    iprop(live a b K c (owed c 7 0 0) ∗ cred (tallyAt (barCell c) () 7) ∗ atPos ER (barCell c) 0 ∅ 0)
      ⊢ runs c meet iprop(live a b K c (owed c 7 0 0) ∗ atPos ER (barCell c) 1 ∅ 0 ∗ bigSep Finset.univ fun d => barPay c d) := by
  unfold meet live
  simp only [semWaitWord, Prog.lift, runs]
  iintro ⟨⟨#HR, %W, HO⟩, Hc, Hat⟩
  iapply (Rounds.wp_wait_rest_token 𝒱₀ ER (sched a b) (c : Thread nD τ) none (κ := K (c, none))
      (wpE_semWait_eq 𝒱₀ (c : Thread nD τ) none Set.univ) (Set.mem_univ _) () (O := owed c 7 0 0) (W := W) (R := 0) (m := 0) (T := ∅)
      (by rw [expect_bar]; decide)) $$ [Hc HO Hat]
  · isplitr; · iapply (inv_of a b K c none); iexact HR
    isplitl [Hc]; · iexact Hc
    isplitl [HO]; · iexact HO
    isplitr
    · iapply (mayWait_of c (.reg barS) 1 7 0 0 (Nat.le_of_eq (lv_bar c)) (by decide) (Or.inl (by decide)) (Or.inr (Nat.le_refl _)))
      iapply (levels_of a b K); iexact HR
    iexact Hat
  iintro ⟨HO, Hat, -, Hpay⟩
  rw [wp_ret]; imodintro
  isplitl [HO]
  · isplitr; · iexact HR
    iexists _; iexact HO
  isplitl [Hat]; · iexact Hat
  ihave Hp := (Entails.of_eq (rest_bar a b c)) $$ Hpay
  iexact Hp

/-! ## The waits on transfers -/

/-- Waiting for a transfer brings in what it leaves. -/
theorem await_runs (k : Fin 4) (c : Dev nD) (o : Fin 7) (h : Fin 2) (j l : ℕ) (hk : k = 1 → 14 ≤ j) (hk3 : k = 3 → 14 ≤ j ∧ 14 ≤ l)
    {s s' : Shape} {e e' : EltTy} {sp sp' : Space} (m : Memref sig .tc sp s e) (m' : Memref sig .tc sp' s' e') (hm : m'.view.dmaCredit = N)
    {w : m.view.WordExact} {w' : m'.view.WordExact} :
    iprop(live a b K c (owed c 7 j l) ∗ cred (tallyAt (xCell k c o h) () N) ∗ atPos ER (xCell k c o h) 0 ∅ 0)
      ⊢ runs c (.op (.waitDma2 (xSem k o h) m m' w w') .ret)
          iprop(live a b K c (owed c 7 j l) ∗ atPos ER (xCell k c o h) 1 ∅ 0 ∗ xPay a b c k o h) := by
  unfold live
  iintro ⟨⟨#HR, %W, HO⟩, Hc, Hat⟩
  have hwait : (levAts L lv : sProp 𝕄) ⊢ MayWait (c : Thread nD τ) (.dma (xSem k o h)) () (owed c 7 j l) := by
    by_cases h3 : k = 3
    · obtain ⟨hj, hl⟩ := hk3 h3
      have : owed c 7 j l = 0 := by
        unfold owed barOwed landOwed gotOwed
        rw [from'_end tellIx 7 (fun i => i.isLt),
          from'_end scatIx j (fun p => by have := p.1.isLt; have := p.2.isLt; show 2 * p.1.val + p.2.val < j; omega),
          from'_end gathIx l (fun p => by have := p.1.isLt; have := p.2.isLt; show 7 * p.2.val + p.1.val < l; omega)]
        simp only [Finset.sum_empty, add_zero]
      rw [this, MayWait_zero]; iintro -; iempintro
    · by_cases h1 : k = 1
      · exact mayWait_of c _ 2 7 j l (by rw [show ((c : Thread nD τ), SemLoc.dma (xSem k o h)) = xCell k c o h from rfl, lv_x, h1])
          (by decide) (Or.inr (hk h1)) (Or.inr (Nat.le_refl _))
      · refine mayWait_of c _ 0 7 j l ?_ (by decide) (Or.inl (by decide)) (Or.inr (Nat.le_refl _))
        rw [show ((c : Thread nD τ), SemLoc.dma (xSem k o h)) = xCell k c o h from rfl, lv_x]
        revert h1 h3
        clear hk hk3
        fin_cases k <;> intro h3 h1 <;> first | exact Nat.le_refl 0 | exact absurd rfl h1 | exact absurd rfl h3
  iapply (Rounds.wp_wait_rest_token 𝒱₀ ER (sched a b) (c : Thread nD τ) none (κ := K (c, some (k, o, h)))
      (wpE_waitDma2_eq 𝒱₀ (c : Thread nD τ) none Set.univ) (Set.mem_univ _) () (O := owed c 7 j l) (W := W) (R := 0) (m := 0) (T := ∅)
      (by rw [Nat.zero_add, expect_x]; exact hm)) $$ [Hc HO Hat]
  · isplitr; · iapply (inv_of a b K c (some (k, o, h))); iexact HR
    isplitl [Hc]; · rw [hm]; iexact Hc
    isplitl [HO]; · iexact HO
    isplitr
    · iapply hwait; iapply (levels_of a b K); iexact HR
    iexact Hat
  iintro ⟨HO, Hat, -, Hpay⟩
  rw [wp_ret]; imodintro
  isplitl [HO]
  · isplitr; · iexact HR
    iexists _; iexact HO
  isplitl [Hat]; · iexact Hat
  ihave Hp := (Entails.of_eq (rest_x a b c k o h)) $$ Hpay
  iexact Hp

/-! ## The transfers -/

/-- A transfer between two pieces: it pays its two cells, the piece read out to the one and what it leaves to the other. -/
theorem send_runs (kS kR : Fin 4) (c d : Dev nD) (o : Fin 7) (h : Fin 2) {src : Memref sig .tc .vmem S64x1024 .f32}
    {dst : Memref sig .tc .vmem S64x1024 .f32} (hN : dst.view.dmaCredit = N)
    {hsc : (dst : Memref sig (Dev.tc d : Thread nD τ).2.kind .vmem S64x1024 .f32).view.ref.isScScratch = false}
    {hsrc : src.view.WordExact} {hdst : dst.view.WordExact}
    {hsem : DmaTarget.Typed .vmem (.dma (xSem kR o h)) (.remote (Dev.tc d : Thread nD τ) dst (.dma (xSem kS o h)) hsc)}
    {q : PosShare TreeShare} {fs : Buf (Elt F) (src.view.loc (c : Thread nD τ))} {fd : Buf (Elt F) (dst.view.loc (d : Thread nD τ))}
    (O O' : CellTallies nD τ sig Unit) (hO : O = O' + tallyAt (xCell kR d o h) () N)
    (hs : (src.view.loc (c : Thread nD τ) ↦[src.view.set]{q} fs) ⊢ xPay a b c kS o h)
    (hd : (dst.view.loc (d : Thread nD τ) ↦[dst.view.set]{fullShare} (dst.view.write (Elt F) fd (src.view.read (Elt F) fs) Finset.univ))
      ⊢ xPay a b d kR o h) :
    iprop(live a b K c O ∗ (dutyTok ER (xCell kS c o h) 0 0 ∗ dutyTok ER (xCell kR d o h) 0 0)
        ∗ (src.view.loc (c : Thread nD τ) ↦[src.view.set]{q} fs) ∗ (dst.view.loc (d : Thread nD τ) ↦[dst.view.set]{fullShare} fd))
      ⊢ runs c (.op (.enqueueDma src (.remote (Dev.tc d : Thread nD τ) dst (.dma (xSem kS o h)) hsc) (.dma (xSem kR o h)) hsrc hdst hsem) .ret)
          iprop(live a b K c O' ∗ cred (tallyAt (xCell kS c o h) () N)) := by
  unfold live
  iintro ⟨⟨#HR, %W, HO⟩, ⟨HtS, HtR⟩, Hs, Hd⟩
  iapply (Rounds.wp_send_pointsTo 𝒱₀ ER (sched a b) (c : Thread nD τ) none (κ₁ := K (c, some (kS, o, h))) (κ₂ := K (d, some (kR, o, h)))
    (r₁ := 0) (r₂ := 0) (d₁ := 0) (d₂ := 0) (fs := fs) (fd := fd)
    (by rw [duties_x]; exact Finset.mem_singleton_self _) (by rw [duties_x]; exact Finset.mem_singleton_self _)
    () () N (show dst.view.amount (.dma (xSem kR o h)) = N from hN) rfl rfl O' hO (W := W)
    (by rw [payload_x]; exact hs) (by rw [payload_x]; exact hd)) $$ [HO HtS HtR Hs Hd]
  · isplitr; · iapply (inv_of a b K c (some (kS, o, h))); iexact HR
    isplitr; · iapply (inv_of a b K d (some (kR, o, h))); iexact HR
    isplitl [Hs]; · iexact Hs
    isplitl [Hd]; · iexact Hd
    isplitl [HO]; · iexact HO
    isplitl [HtS]; · iexact HtS
    isplitr; · iapply (reached_of a b K c (some (kS, o, h))); iexact HR
    isplitl [HtR]; · iexact HtR
    iapply (reached_of a b K d (some (kR, o, h))); iexact HR
  iintro ⟨Hc, HO⟩
  rw [wp_ret]; imodintro
  isplitl [HO]
  · isplitr; · iexact HR
    iexists W; iexact HO
  iexact Hc

/-- Sending a half of the product's rows. -/
theorem scat_runs (c : Dev nD) (o : Fin 7) (h : Fin 2) :
    iprop(live a b K c (owed c 7 (2 * o.val + h.val) 0) ∗ (dutyTok ER (xCell 0 c o h) 0 0 ∗ dutyTok ER (xCell 1 (peer c o) o h) 0 0)
        ∗ zAt c (peer c o) h (zfin a b c) ∗ ∃ f, rAt (peer c o) o h f)
      ⊢ runs c (scat c o h) iprop(live a b K c (owed c 7 (2 * o.val + h.val + 1) 0) ∗ cred (tallyAt (xCell 0 c o h) () N)) := by
  have key : ∀ (d : Dev nD) (m : Memref sig .tc .vmem S64x1024 .f32) (hd : d = peer c o) (hm : m = zRows (peer c o) h)
      (hsc : ((slabM o h) : Memref sig (Dev.tc d : Thread nD τ).2.kind .vmem S64x1024 .f32).view.ref.isScScratch = false)
      (hsrc : m.view.WordExact) (hdst : (slabM o h).view.WordExact)
      (hsem : DmaTarget.Typed .vmem (.dma (xSem 1 o h)) (.remote (Dev.tc d : Thread nD τ) (slabM o h) (.dma (xSem 0 o h)) hsc)),
      iprop(live a b K c (owed c 7 (2 * o.val + h.val) 0) ∗ (dutyTok ER (xCell 0 c o h) 0 0 ∗ dutyTok ER (xCell 1 (peer c o) o h) 0 0)
        ∗ zAt c (peer c o) h (zfin a b c) ∗ ∃ f, rAt (peer c o) o h f)
      ⊢ runs c (.op (.enqueueDma m (.remote (Dev.tc d : Thread nD τ) (slabM o h) (.dma (xSem 0 o h)) hsc) (.dma (xSem 1 o h)) hsrc hdst hsem) .ret)
          iprop(live a b K c (owed c 7 (2 * o.val + h.val + 1) 0) ∗ cred (tallyAt (xCell 0 c o h) () N)) := by
    intro d m hd hm hsc hsrc hdst hsem
    subst hd hm
    iintro ⟨HO, Ht, Hz, %f, Hr⟩
    iapply (send_runs a b K 0 1 c (peer c o) o h (src := zRows (peer c o) h) (dst := slabM o h) (q := fullShare) (fs := zfin a b c) (fd := f)
      (credit_slab o h) (owed c 7 (2 * o.val + h.val) 0) (owed c 7 (2 * o.val + h.val + 1) 0) (owed_scat c o h 7 0)
      (by rw [zRows_set]; exact Entails.refl _)
      (by rw [slabM_set]; exact Entails.of_eq (pointsTo_congr (write_scat a b c o h f))))
    isplitl [HO]; · iexact HO
    isplitl [Ht]; · iexact Ht
    isplitl [Hz]
    · rw [zRows_set]; unfold zAt; iexact Hz
    · rw [slabM_set]; unfold rAt; iexact Hr
  exact key (scatDev c o h) (zHalf c o h) (scatDev_eq c o h) (zHalf_eq c o h) _ _ _ _

/-- Sending a finished half. -/
theorem gath_runs (c : Dev nD) (h : Fin 2) (o : Fin 7) :
    iprop(live a b K c (owed c 7 14 (7 * h.val + o.val)) ∗ (dutyTok ER (xCell 2 c o h) 0 0 ∗ dutyTok ER (xCell 3 (peer c o) o h) 0 0)
        ∗ oAt c c h (readShare o) (ofin a b) ∗ ∃ f, oAt (peer c o) c h fullShare f)
      ⊢ runs c (gath c h o) iprop(live a b K c (owed c 7 14 (7 * h.val + o.val + 1)) ∗ cred (tallyAt (xCell 2 c o h) () N)) := by
  have key : ∀ (d : Dev nD) (m : Memref sig .tc .vmem S64x1024 .f32) (hd : d = peer c o) (hm : m = oRows c h)
      (hsc : (m : Memref sig (Dev.tc d : Thread nD τ).2.kind .vmem S64x1024 .f32).view.ref.isScScratch = false)
      (hsrc : m.view.WordExact) (hdst : m.view.WordExact)
      (hsem : DmaTarget.Typed .vmem (.dma (xSem 3 o h)) (.remote (Dev.tc d : Thread nD τ) m (.dma (xSem 2 o h)) hsc)),
      iprop(live a b K c (owed c 7 14 (7 * h.val + o.val)) ∗ (dutyTok ER (xCell 2 c o h) 0 0 ∗ dutyTok ER (xCell 3 (peer c o) o h) 0 0)
        ∗ oAt c c h (readShare o) (ofin a b) ∗ ∃ f, oAt (peer c o) c h fullShare f)
      ⊢ runs c (.op (.enqueueDma m (.remote (Dev.tc d : Thread nD τ) m (.dma (xSem 2 o h)) hsc) (.dma (xSem 3 o h)) hsrc hdst hsem) .ret)
          iprop(live a b K c (owed c 7 14 (7 * h.val + o.val + 1)) ∗ cred (tallyAt (xCell 2 c o h) () N)) := by
    intro d m hd hm hsc hsrc hdst hsem
    subst hd hm
    iintro ⟨HO, Ht, Hz, %f, Hr⟩
    iapply (send_runs a b K 2 3 c (peer c o) o h (src := oRows c h) (dst := oRows c h) (q := readShare o) (fs := ofin a b) (fd := f)
      (credit_o c h) (owed c 7 14 (7 * h.val + o.val)) (owed c 7 14 (7 * h.val + o.val + 1)) (owed_gath c o h 7 14)
      (by rw [oRows_set]; exact Entails.refl _)
      (by
        rw [oRows_set]
        show _ ⊢ oAt (peer c o) (peer (peer c o) (back o)) h fullShare (ofin a b)
        rw [peer_back]
        exact Entails.of_eq (pointsTo_congr (write_gath c h f (ofin a b)))))
    isplitl [HO]; · iexact HO
    isplitl [Ht]; · iexact Ht
    isplitl [Hz]
    · rw [oRows_set]; unfold oAt; iexact Hz
    · rw [oRows_set]; unfold oAt; iexact Hr
  exact key (gathDev c h o) (oHalf c h) (gathDev_eq c h o) (oHalf_eq c h) _ _ _ _

end Cert.Reduce

end
-- ==== Proof.Compute.lean ====
/-
The effects that compute: a block's partial product, and a finished half.
-/
module

public import proofs.«01_k».proof.Proof.Steps

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (a : Dev nD → Vec F S1024x512 .f32) (b : Dev nD → Vec F S512x1024 .f32)

/-- The staged factors of device `c`, and the block of device `e`'s rows of its product. -/
def aIn (c : Dev nD) : sProp 𝕄 := (c : Thread nD τ).loc cc0_stg0_0 ↦{fullShare} a c
def bIn (c : Dev nD) : sProp 𝕄 := (c : Thread nD τ).loc cc0_stg1_0 ↦{fullShare} b c
def zBlk (c e : Dev nD) (f : Vec F S1024x1024 .f32) : sProp 𝕄 := zLoc c ↦[(blockR e).set]{fullShare} f

/-- The elements a rectangle of a whole buffer names. -/
theorem setOn_z (r : Rect S1024x1024) : zM.view.setOn r.set = r.set := (View.set_slice zM.view r).symm.trans (View.set_slice_whole _ _)
/-- The result buffer's whole view touches exactly a rectangle's elements. -/
theorem setOn_o (r : Rect S1024x1024) : oM.view.setOn r.set = r.set := (View.set_slice oM.view r).symm.trans (View.set_slice_whole _ _)
/-- So does the landing buffer's. -/
theorem setOn_r (r : Rect S7x2x64x1024) : rM.view.setOn r.set = r.set := (View.set_slice rM.view r).symm.trans (View.set_slice_whole _ _)

/-- A block stored with the partial product, as the effects leave it. -/
theorem z_stored (c e : Dev nD) (f : Vec F S1024x1024 .f32) :
    (zLoc c ↦[(blockR e).set]{fullShare} ((zM.access (blockR e)).write (Elt F) f
      (k0_pay1 (aM.view.readAt (Elt F) (ablkR e).toLoadRect (a c)) (bM.view.readAt (Elt F) bRect.toLoadRect (b c))) Finset.univ) : sProp 𝕄)
      ⊢ zLoc c ↦[(blockR e).set]{fullShare} zfin a b c :=
  Entails.of_eq (pointsTo_congr (write_block a b c e f))

/-- A half stored finished, likewise. -/
theorem o_stored (c : Dev nD) (h : Fin 2) (f : Vec F S1024x1024 .f32) :
    (oLoc c ↦[(rowsR c h).set]{fullShare} ((oM.access (rowsR c h)).write (Elt F) f
      (k0_pay13 (k0_pay11 (zM.view.readAt (Elt F) (rowsR c h).toLoadRect (zfin a b c)) (slabIn a b c h 0) (slabIn a b c h 1)
        (slabIn a b c h 2) (slabIn a b c h 3) (slabIn a b c h 4) (slabIn a b c h 5)) (k0_pay12 (slabIn a b c h 6))) Finset.univ) : sProp 𝕄)
      ⊢ oLoc c ↦[(rowsR c h).set]{fullShare} ofin a b :=
  Entails.of_eq (pointsTo_congr (write_half a b c h f))

/-- The product of one block of rows: of device `e`'s rows, at whatever offsets name them. -/
theorem mul_runs (c e : Dev nD) (oa oz : Fin 2 → ℕ) (ha : oa = ![128 * e.val, 0]) (hz : oz = ![128 * e.val, 0])
    (ia : ∀ x, oa x + S128x512.size x ≤ S1024x512.size x) (iz : ∀ x, oz x + S128x1024.size x ≤ S1024x1024.size x)
    (la : aM.view.LoadsAt (Rect.unit (s := S1024x512) oa S128x512.size ia).toLoadRect) (lb : bM.view.LoadsAt bRect.toLoadRect)
    (lz : zM.view.LoadsAt (Rect.unit (s := S1024x1024) oz S128x1024.size iz).toLoadRect)
    (sz : (zM.access (Rect.unit (s := S1024x1024) oz S128x1024.size iz)).Stores Finset.univ)
    (hm : (Finset.univ : Finset (Rect.unit (s := S1024x1024) oz S128x1024.size iz).shape.Idx) = Finset.univ
      ∨ ∀ x, (Rect.unit (s := S1024x1024) oz S128x1024.size iz).stride x = 1) :
    iprop((aIn a c ∗ bIn b c) ∗ ∃ f, zBlk c e f)
      ⊢ runs c (.op (.load aM (Rect.unit (s := S1024x512) oa S128x512.size ia).toLoadRect la) fun x =>
          .op (.load bM bRect.toLoadRect lb) fun y =>
          .op (.load zM (Rect.unit (s := S1024x1024) oz S128x1024.size iz).toLoadRect lz) fun _ =>
          .op (.store zM (Rect.unit (s := S1024x1024) oz S128x1024.size iz) (k0_pay1 x y) Finset.univ sz hm) .ret)
        iprop((aIn a c ∗ bIn b c) ∗ zBlk c e (zfin a b c)) := by
  subst ha hz
  unfold aIn bIn zBlk
  iintro ⟨⟨Ha, Hb⟩, %f, Hz⟩
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_load 𝒱₀ (c : Thread nD τ) none Set.univ (m := zM) (S := (blockR e).set) ((setOn_z (blockR e)).subset)) $$ Hz; iintro Hz
  iapply (wp_store 𝒱₀ (c : Thread nD τ) none Set.univ (m := zM) (r := blockR e) (Mk := Finset.univ) (S := (blockR e).set)
    ((View.set_slice_whole _ _).subset)) $$ Hz; iintro Hz
  rw [wp_ret]; imodintro
  isplitl [Ha Hb]
  · isplitl [Ha] <;> iassumption
  iapply (z_stored a b c e f); iexact Hz

/-- The product for peer `o` fills that peer's block of the product buffer. -/
theorem mulFor_runs (c : Dev nD) (o : Fin 7) :
    iprop((aIn a c ∗ bIn b c) ∗ ∃ f, zBlk c (peer c o) f) ⊢ runs c (mulFor c o) iprop((aIn a c ∗ bIn b c) ∗ zBlk c (peer c o) (zfin a b c)) :=
  mul_runs a b c (peer c o) _ _ (off1_eq c o) (off2_eq c o) _ _ _ _ _ _ _

/-- The product for this device fills its own block. -/
theorem mulOwn_runs (c : Dev nD) :
    iprop((aIn a c ∗ bIn b c) ∗ ∃ f, zBlk c c f) ⊢ runs c (mulOwn c) iprop((aIn a c ∗ bIn b c) ∗ zBlk c c (zfin a b c)) :=
  mul_runs a b c c _ _ (k0_off4_eq c) (k0_off5_eq c) _ _ _ _ _ _ _

/-- Reading a slab goes on with what landed in it. -/
theorem slab_runs (c : Dev nD) (o : Fin 7) (h : Fin 2) {k : Vec F S1x1x64x1024 .f32 → P F PUnit} {Q : sProp 𝕄} :
    rAt c o h (rfin a b c) ⊢ iprop((rAt c o h (rfin a b c) -∗ runs c (k (slabIn a b c h o)) Q) -∗ runs c (readSlab o h k) Q) :=
  wp_load 𝒱₀ (c : Thread nD τ) none Set.univ (m := rM) (S := (slabRect o h).set) ((setOn_r (slabRect o h)).subset)

/-- The sum, the activation and the store, at whatever offsets name the half. -/
theorem fin_runs (c : Dev nD) (h : Fin 2) (oz : Fin 2 → ℕ) (hz : oz = ![128 * c.val + 64 * h.val, 0])
    (iz : ∀ x, oz x + S64x1024.size x ≤ S1024x1024.size x)
    (lz : zM.view.LoadsAt (Rect.unit (s := S1024x1024) oz S64x1024.size iz).toLoadRect)
    (lo : oM.view.LoadsAt (Rect.unit (s := S1024x1024) oz S64x1024.size iz).toLoadRect)
    (so : (oM.access (Rect.unit (s := S1024x1024) oz S64x1024.size iz)).Stores Finset.univ)
    (hm : (Finset.univ : Finset (Rect.unit (s := S1024x1024) oz S64x1024.size iz).shape.Idx) = Finset.univ
      ∨ ∀ x, (Rect.unit (s := S1024x1024) oz S64x1024.size iz).stride x = 1) :
    iprop(zAt c c h (zfin a b c) ∗ (bigSep Finset.univ fun o => rAt c o h (rfin a b c)) ∗ ∃ f, oAt c c h fullShare f)
      ⊢ runs c (.op (.load zM (Rect.unit (s := S1024x1024) oz S64x1024.size iz).toLoadRect lz) fun z =>
          readSlab 0 h fun s0 => readSlab 1 h fun s1 => readSlab 2 h fun s2 => readSlab 3 h fun s3 => readSlab 4 h fun s4 =>
          readSlab 5 h fun s5 => readSlab 6 h fun s6 =>
          .op (.load oM (Rect.unit (s := S1024x1024) oz S64x1024.size iz).toLoadRect lo) fun _ =>
          .op (.store oM (Rect.unit (s := S1024x1024) oz S64x1024.size iz) (k0_pay13 (k0_pay11 z s0 s1 s2 s3 s4 s5) (k0_pay12 s6))
            Finset.univ so hm) .ret)
        iprop(zAt c c h (zfin a b c) ∗ (bigSep Finset.univ fun o => rAt c o h (rfin a b c)) ∗ oAt c c h fullShare (ofin a b)) := by
  subst hz
  rw [bigSep_seven]
  unfold zAt oAt
  iintro ⟨Hz, ⟨H0, H1, H2, H3, H4, H5, H6⟩, %f, Ho⟩
  iapply (wp_load 𝒱₀ (c : Thread nD τ) none Set.univ (m := zM) (S := (rowsR c h).set) ((setOn_z (rowsR c h)).subset)) $$ Hz; iintro Hz
  iapply (slab_runs a b c 0 h) $$ H0; iintro H0
  iapply (slab_runs a b c 1 h) $$ H1; iintro H1
  iapply (slab_runs a b c 2 h) $$ H2; iintro H2
  iapply (slab_runs a b c 3 h) $$ H3; iintro H3
  iapply (slab_runs a b c 4 h) $$ H4; iintro H4
  iapply (slab_runs a b c 5 h) $$ H5; iintro H5
  iapply (slab_runs a b c 6 h) $$ H6; iintro H6
  iapply (wp_load 𝒱₀ (c : Thread nD τ) none Set.univ (m := oM) (S := (rowsR c h).set) ((setOn_o (rowsR c h)).subset)) $$ Ho; iintro Ho
  iapply (wp_store 𝒱₀ (c : Thread nD τ) none Set.univ (m := oM) (r := rowsR c h) (Mk := Finset.univ) (S := (rowsR c h).set)
    ((View.set_slice_whole _ _).subset)) $$ Ho; iintro Ho
  rw [wp_ret]; imodintro
  isplitl [Hz]; · iexact Hz
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  iapply (o_stored a b c h f); iexact Ho

/-- Finishing a half reads the own half and the seven slabs, and fills that half of the result. -/
theorem finish_runs (c : Dev nD) (h : Fin 2) :
    iprop(zAt c c h (zfin a b c) ∗ (bigSep Finset.univ fun o => rAt c o h (rfin a b c)) ∗ ∃ f, oAt c c h fullShare f)
      ⊢ runs c (finish c h)
        iprop(zAt c c h (zfin a b c) ∗ (bigSep Finset.univ fun o => rAt c o h (rfin a b c)) ∗ oAt c c h fullShare (ofin a b)) :=
  fin_runs a b c h _ (k0_off6_eq c h) _ _ _ _ _

end Cert.Reduce

end
-- ==== Proof.Pieces.lean ====
/-
How a device's buffers divide into the pieces its effects touch, and come together again: the product into blocks and
halves of rows, the landing buffer into slabs, the result into halves of rows, a finished half into reading shares.
-/
module

public import proofs.«01_k».proof.Proof.Compute

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- One assertion for every peer and half. -/
def each (Φ : Fin 7 → Fin 2 → sProp 𝕄) : sProp 𝕄 := bigSep Finset.univ fun o => bigSep Finset.univ fun h => Φ o h

omit [FloatOps F]

/-- Peers and halves may be run through in either order; -/
theorem each_swap (Φ : Fin 7 → Fin 2 → sProp 𝕄) :
    each Φ = bigSep Finset.univ fun h => bigSep Finset.univ fun o => Φ o h :=
  Idealize.SL.BI.bigSep_univ_comm Φ

/-- or as pairs. -/
theorem each_pairs (Φ : Fin 7 → Fin 2 → sProp 𝕄) : each Φ = bigSep Finset.univ fun p : Fin 7 × Fin 2 => Φ p.1 p.2 :=
  (bigSep_univ_prod (fun p : Fin 7 × Fin 2 => Φ p.1 p.2)).symm

/-- Two assertions for every peer and half are the two families together. -/
theorem each_sep (Φ Ψ : Fin 7 → Fin 2 → sProp 𝕄) : each (fun o h => iprop(Φ o h ∗ Ψ o h)) = iprop(each Φ ∗ each Ψ) := by
  unfold each
  rw [← bigSep_sep']
  exact bigSep_congr fun o _ => bigSep_sep' _ _ _

/-- What follows for one peer and half follows for all. -/
theorem each_mono {Φ Ψ : Fin 7 → Fin 2 → sProp 𝕄} (h : ∀ o i, Φ o i ⊢ Ψ o i) : each Φ ⊢ each Ψ :=
  bigSep_mono fun o _ => bigSep_mono fun i _ => h o i

/-- The peers in the order they see this device. -/
theorem each_back (Φ : Fin 7 → Fin 2 → sProp 𝕄) : each Φ = each fun o h => Φ (back o) h :=
  bigSep_univ_equiv (Equiv.mk back back back_back back_back) (fun o => bigSep Finset.univ fun h => Φ o h)

/-- The other devices are the seven peers. -/
theorem others (c : Dev nD) :
    (Finset.univ : Finset (Dev nD)).erase c = Finset.univ.map ⟨fun o => peer c o, fun _ _ h => peer_inj c h⟩ := by
  revert c; decide +kernel

/-- One assertion for every device is this device's and its peers'. -/
theorem devs_split (c : Dev nD) (Φ : Dev nD → sProp 𝕄) :
    bigSep Finset.univ Φ = iprop(Φ c ∗ bigSep Finset.univ fun o : Fin 7 => Φ (peer c o)) := by
  rw [bigSep_univ_split c, others c, Idealize.SL.BI.bigSep_map]; rfl

variable (c : Dev nD)

/-! ## The halves of rows -/

/-- A whole buffer is the pieces that tile it, -/
theorem pieces_of {T : Type} [Fintype T] {ℓ : Loc nD τ sig} (K : T → Finset (Idx ℓ)) (hc : Finset.univ.biUnion K = Finset.univ)
    (hd : ∀ p q : T, p ≠ q → Disjoint (K p) (K q)) (f : Buf (Elt F) ℓ) :
    (ℓ ↦{fullShare} f : sProp 𝕄) = bigSep Finset.univ fun t => ℓ ↦[K t]{fullShare} f := by
  rw [← pointsTo_biUnion Finset.univ K (fun p _ q _ h => hd p q h), hc]

/-- such as its halves of rows. -/
theorem halves_of {ℓ : Loc nD τ sig} (K : Dev nD → Fin 2 → Finset (Idx ℓ)) (hc : Finset.univ.biUnion (fun p : Dev nD × Fin 2 => K p.1 p.2) = Finset.univ)
    (hd : ∀ p q : Dev nD × Fin 2, p ≠ q → Disjoint (K p.1 p.2) (K q.1 q.2)) (f : Buf (Elt F) ℓ) :
    (ℓ ↦{fullShare} f : sProp 𝕄) = bigSep Finset.univ fun e : Dev nD => bigSep Finset.univ fun h : Fin 2 => ℓ ↦[K e h]{fullShare} f := by
  rw [← bigSep_univ_prod (fun p : Dev nD × Fin 2 => (ℓ ↦[K p.1 p.2]{fullShare} f : sProp 𝕄))]
  exact pieces_of (fun p : Dev nD × Fin 2 => K p.1 p.2) hc hd f

/-- A block of the product is its two halves. -/
theorem zBlk_halves (e : Dev nD) (f : Vec F S1024x1024 .f32) : zBlk c e f = bigSep Finset.univ fun h => zAt c e h f := by
  unfold zBlk zAt
  rw [block_halves, pointsTo_biUnion]
  exact fun h _ h' _ hne => rows_disjoint (e, h) (e, h') (fun k => hne (congrArg Prod.snd k))

/-- The product buffer is this device's block and its peers' blocks; -/
theorem z_blocks (f : Vec F S1024x1024 .f32) :
    (zLoc c ↦{fullShare} f : sProp 𝕄) = iprop(zBlk c c f ∗ bigSep Finset.univ fun o : Fin 7 => zBlk c (peer c o) f) := by
  rw [halves_of (ℓ := zLoc c) (fun e h => (rowsR e h).set) rows_cover rows_disjoint f, devs_split c]
  simp only [zBlk_halves]
  rfl

/-- or its own halves and its peers' halves. -/
theorem z_halves (f : Vec F S1024x1024 .f32) :
    (zLoc c ↦{fullShare} f : sProp 𝕄) = iprop((bigSep Finset.univ fun h => zAt c c h f) ∗ each fun o h => zAt c (peer c o) h f) := by
  rw [halves_of (ℓ := zLoc c) (fun e h => (rowsR e h).set) rows_cover rows_disjoint f, devs_split c]
  rfl

/-- The result's buffer, likewise. -/
theorem o_halves (f : Vec F S1024x1024 .f32) :
    (oLoc c ↦{fullShare} f : sProp 𝕄)
      = iprop((bigSep Finset.univ fun h => oAt c c h fullShare f) ∗ each fun o h => oAt c (peer c o) h fullShare f) := by
  rw [halves_of (ℓ := oLoc c) (fun e h => (rowsR e h).set) rows_cover rows_disjoint f, devs_split c]
  rfl

/-- The landing buffer is its slabs. -/
theorem r_slabs (f : Vec F S7x2x64x1024 .f32) : (rLoc c ↦{fullShare} f : sProp 𝕄) = each fun o h => rAt c o h f := by
  rw [each_pairs]
  exact pieces_of (ℓ := rLoc c) (fun p : Fin 7 × Fin 2 => (slabRect p.1 p.2).set) slab_cover slab_disjoint f

/-- An assertion for each of eight, written out; -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- and the last of eight set apart. -/
theorem regroup_eight (A0 A1 A2 A3 A4 A5 A6 A7 : sProp 𝕄) :
    iprop(A0 ∗ A1 ∗ A2 ∗ A3 ∗ A4 ∗ A5 ∗ A6 ∗ A7) = iprop((A0 ∗ A1 ∗ A2 ∗ A3 ∗ A4 ∗ A5 ∗ A6) ∗ A7) := by
  have h : iprop(A0 ∗ A1 ∗ A2 ∗ A3 ∗ A4 ∗ A5 ∗ A6 ∗ A7) ⊢ iprop((A0 ∗ A1 ∗ A2 ∗ A3 ∗ A4 ∗ A5 ∗ A6) ∗ A7) := by
    iintro ⟨H0, H1, H2, H3, H4, H5, H6, H7⟩
    isplitr [H7]
    · isplitl [H0]; · iexact H0
      isplitl [H1]; · iexact H1
      isplitl [H2]; · iexact H2
      isplitl [H3]; · iexact H3
      isplitl [H4]; · iexact H4
      isplitl [H5]; · iexact H5
      iexact H6
    · iexact H7
  have h' : iprop((A0 ∗ A1 ∗ A2 ∗ A3 ∗ A4 ∗ A5 ∗ A6) ∗ A7) ⊢ iprop(A0 ∗ A1 ∗ A2 ∗ A3 ∗ A4 ∗ A5 ∗ A6 ∗ A7) := by
    iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  exact Entails.antisymm h h'

/-- A finished half, in the shares the seven transfers read from and the one kept. -/
theorem o_shares (e : Dev nD) (h : Fin 2) (f : Vec F S1024x1024 .f32) :
    oAt c e h fullShare f = iprop((bigSep Finset.univ fun o => oAt c e h (readShare o) f) ∗ oAt c e h keptShare f) := by
  have l : oAt c e h fullShare f = bigSep Finset.univ fun i : Fin 8 => oAt c e h (ShareLeaves.leaf 3 fullShare i) f :=
    ShareLeaves.pointsTo_leaves (ℓ := oLoc c) (rowsR e h).set f 3 fullShare
  rw [l, bigSep_seven, bigSep_eight]
  exact regroup_eight _ _ _ _ _ _ _ _

/-! ## Handing over at the barrier -/

/-- What the peers bring: for every peer and half, the slab and the rows of it this device writes. -/
theorem bar_in : (bigSep Finset.univ fun d => barPay c d)
    = iprop((each fun o h => iprop(∃ f, rAt (F := F) (peer c o) o h f)) ∗ each fun o h => iprop(∃ f, oAt (peer c o) c h fullShare f)) := by
  rw [← each_sep]; rfl

/-- What this device hands over: all its slabs, and the rows of its result that are its peers'. -/
theorem bar_out : iprop((each fun o h => iprop(∃ f, rAt (F := F) c o h f)) ∗ each fun o h => iprop(∃ f, oAt c (peer c o) h fullShare f))
    ⊢ bigSep Finset.univ fun o => barPay (peer c o) (back o) := by
  rw [each_back (fun o h => iprop(∃ f, rAt (F := F) c o h f)), ← each_sep]
  refine bigSep_mono fun o _ => ?_
  unfold barPay
  rw [peer_back]
  exact Entails.refl _

end Cert.Reduce

end
-- ==== Proof.Body.lean ====
/-
The body, phase by phase, and whole.
-/
module

public import proofs.«01_k».proof.Proof.Pieces

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1024x512 .f32) (b : Dev nD → Vec F S512x1024 .f32) (K : Dev nD × CellIx → ℕ) (c : Dev nD)

/-! ## What a device holds of the cells -/

/-- The device whose cell of role `k` device `c` pays for peer `o`: its own where a piece is read out, the peer's where one
    lands. -/
def payee (k : Fin 4) (c : Dev nD) (o : Fin 7) : Dev nD :=
  match k with | 0 => c | 1 => peer c o | 2 => c | 3 => peer c o

/-- Its position at its cell of role `k`, before round `r`; the token of the duty it pays; the credit of the cell. -/
def posOf (k : Fin 4) (r : ℕ) (o : Fin 7) (h : Fin 2) : sProp 𝕄 := atPos ER (xCell k c o h) r ∅ 0
def tokOf (k : Fin 4) (o : Fin 7) (h : Fin 2) : sProp 𝕄 := dutyTok ER (xCell k (payee k c o) o h) 0 0
def credOf (k : Fin 4) (o : Fin 7) (h : Fin 2) : sProp 𝕄 := cred (tallyAt (xCell k c o h) () N)

/-- The pieces other devices hand over. -/
def slabOf (o : Fin 7) (h : Fin 2) : sProp 𝕄 := iprop(∃ f, rAt (peer c o) o h f)
def farOf (o : Fin 7) (h : Fin 2) : sProp 𝕄 := iprop(∃ f, oAt (peer c o) c h fullShare f)

/-! ## The phases -/

omit [FloatOps F] in
/-- Families asserted together, one by one. -/
theorem zip_three {I : Type} [Fintype I] (Φ Ψ Χ : I → sProp 𝕄) :
    iprop(bigSep Finset.univ Φ ∗ bigSep Finset.univ Ψ ∗ bigSep Finset.univ Χ) ⊢ bigSep Finset.univ fun i => iprop(Φ i ∗ Ψ i ∗ Χ i) :=
  Entails.of_eq (by rw [bigSep_sep', bigSep_sep'])

/-- Telling all seven peers pays the duty at each peer's barrier and hands over this device's pieces with it. -/
theorem tell_all :
    iprop(live a b K c (owed c 0 0 0) ∗ bigSep Finset.univ fun o => iprop(dutyTok ER (barCell (peer c o)) 0 (back o) ∗ barPay (peer c o) (back o)))
      ⊢ runs c (seven (tell c)) iprop(live a b K c (owed c 7 0 0) ∗ bigSep Finset.univ fun _ : Fin 7 => iprop(emp)) :=
  seven_each (fun n => live a b K c (owed c n 0 0)) _ (fun _ => iprop(emp)) fun o =>
    (tell_runs a b K c o).trans (wp_mono _ _ _ fun _ => by
      iintro H
      isplitl [H]; · iexact H
      iempintro)

omit [FloatOps F] in
/-- A family at the same contents is one at some contents each. -/
theorem some_all {I X : Type} [Fintype I] (Φ : I → X → sProp 𝕄) (x : X) :
    (bigSep Finset.univ fun i => Φ i x) ⊢ bigSep Finset.univ fun i => iprop(∃ x, Φ i x) :=
  bigSep_mono fun i _ => show Φ i x ⊢ iprop(∃ x, Φ i x) from by iintro H; iexists x; iexact H

/-- One peer's partial product, and its two halves sent. -/
theorem scat_one (o : Fin 7) :
    iprop((live a b K c (owed c 7 (2 * o.val) 0) ∗ aIn a c ∗ bIn b c)
        ∗ (∃ f, zBlk c (peer c o) f) ∗ bigSep Finset.univ fun h => iprop((tokOf c 0 o h ∗ tokOf c 1 o h) ∗ slabOf c o h))
      ⊢ runs c (mulFor c o >>= fun _ => two (scat c o))
          iprop((live a b K c (owed c 7 (2 * (o.val + 1)) 0) ∗ aIn a c ∗ bIn b c) ∗ bigSep Finset.univ fun h => credOf c 0 o h) := by
  have hs := two_each (c := c) (f := scat c o) (fun n => live a b K c (owed c 7 (2 * o.val + n) 0))
    (fun h => iprop((tokOf c 0 o h ∗ tokOf c 1 o h) ∗ zAt c (peer c o) h (zfin a b c) ∗ slabOf c o h)) (fun h => credOf c 0 o h)
    (fun h => scat_runs a b K c o h)
  iintro ⟨⟨HL, Ha, Hb⟩, Hz, Hts⟩
  iapply (part_step (mulFor_runs a b c o)) $$ [Ha Hb Hz]
  · isplitl [Ha Hb]
    · isplitl [Ha] <;> iassumption
    · iexact Hz
  iintro ⟨⟨Ha, Hb⟩, Hz⟩
  ihave Hz := (Entails.of_eq (zBlk_halves c (peer c o) (zfin a b c))) $$ Hz
  ihave Hts := (Entails.of_eq (bigSep_sep' _ _ _)) $$ Hts
  icases Hts with ⟨Ht, Hs⟩
  iapply (last_step hs) $$ [HL Hz Ht Hs]
  · isplitl [HL]; · iexact HL
    iapply (zip_three (fun h => iprop(tokOf c 0 o h ∗ tokOf c 1 o h)) (fun h => zAt c (peer c o) h (zfin a b c)) (fun h => slabOf c o h))
    isplitl [Ht]; · iexact Ht
    isplitl [Hz]; · iexact Hz
    iexact Hs
  iintro ⟨HL, Hc⟩
  isplitl [HL Ha Hb]
  · isplitl [HL]; · iexact HL
    isplitl [Ha] <;> iassumption
  · iexact Hc

/-- All the peers' partial products. -/
theorem scat_all :
    iprop((live a b K c (owed c 7 0 0) ∗ aIn a c ∗ bIn b c) ∗ (∃ f, bigSep Finset.univ fun o => zBlk c (peer c o) f)
        ∗ (each (tokOf c 0) ∗ each (tokOf c 1)) ∗ each (slabOf c))
      ⊢ runs c (seven fun o => mulFor c o >>= fun _ => two (scat c o))
          iprop((live a b K c (owed c 7 14 0) ∗ aIn a c ∗ bIn b c) ∗ each (credOf c 0)) := by
  refine BI.Entails.trans ?_ (seven_each (fun n => iprop(live a b K c (owed c 7 (2 * n) 0) ∗ aIn a c ∗ bIn b c)) _ _ (scat_one a b K c))
  rw [← each_sep, ← each_sep]
  show (_ : sProp 𝕄) ⊢ (_ : sProp 𝕄)
  iintro ⟨HL, ⟨%f, Hz⟩, Hts⟩
  isplitl [HL]; · iexact HL
  rw [bigSep_sep']
  isplitl [Hz]
  · iapply (some_all (fun o f => zBlk c (peer c o) f) f)
    iexact Hz
  · unfold each; iexact Hts

/-- Half `h`: the peers' partial products in, the sum and the activation, the finished half out. -/
theorem finish_one (h : Fin 2) :
    iprop(live a b K c (owed c 7 14 (7 * h.val))
        ∗ ((bigSep Finset.univ fun o => iprop(credOf c 1 o h ∗ posOf c 1 0 o h)) ∗ (zAt c c h (zfin a b c) ∗ ∃ f, oAt c c h fullShare f)
          ∗ (bigSep Finset.univ fun o => iprop(tokOf c 2 o h ∗ tokOf c 3 o h)) ∗ bigSep Finset.univ fun o => farOf c o h))
      ⊢ runs c (seven (fun o => scatRecv c o h) >>= fun _ => finish c h >>= fun _ => seven (gath c h))
          iprop(live a b K c (owed c 7 14 (7 * (h.val + 1)))
            ∗ ((bigSep Finset.univ fun o => posOf c 1 1 o h) ∗ (bigSep Finset.univ fun o => rAt c o h (rfin a b c))
              ∗ (zAt c c h (zfin a b c) ∗ oAt c c h keptShare (ofin a b)) ∗ bigSep Finset.univ fun o => credOf c 2 o h)) := by
  have h1 := seven_each (c := c) (f := fun o => scatRecv c o h) (fun _ => live a b K c (owed c 7 14 (7 * h.val)))
    (fun o => iprop(credOf c 1 o h ∗ posOf c 1 0 o h)) (fun o => iprop(posOf c 1 1 o h ∗ rAt c o h (rfin a b c)))
    (fun o => await_runs a b K 1 c o h 14 (7 * h.val) (fun _ => Nat.le_refl _) (fun e => absurd e (by decide)) (zHalf c o h) (slabM o h) (credit_slab o h))
  have h2 := seven_each (c := c) (f := gath c h) (fun n => live a b K c (owed c 7 14 (7 * h.val + n)))
    (fun o => iprop((tokOf c 2 o h ∗ tokOf c 3 o h) ∗ oAt c c h (readShare o) (ofin a b) ∗ farOf c o h)) (fun o => credOf c 2 o h)
    (fun o => gath_runs a b K c h o)
  iintro ⟨HL, Hcp, ⟨Hz, Ho⟩, Ht, Hf⟩
  iapply (part_step h1) $$ [HL Hcp]
  · isplitl [HL] <;> iassumption
  rw [bigSep_sep' _ (fun o => posOf c 1 1 o h) (fun o => rAt c o h (rfin a b c))]
  iintro ⟨HL, Hp, Hr⟩
  iapply (part_step (finish_runs a b c h)) $$ [Hz Hr Ho]
  · isplitl [Hz]; · iexact Hz
    isplitl [Hr] <;> iassumption
  rw [o_shares c c h (ofin a b)]
  iintro ⟨Hz, Hr, Hs, Hk⟩
  iapply (last_step h2) $$ [HL Ht Hs Hf]
  · isplitl [HL]; · iexact HL
    iapply (zip_three (fun o => iprop(tokOf c 2 o h ∗ tokOf c 3 o h)) (fun o => oAt c c h (readShare o) (ofin a b)) (fun o => farOf c o h))
    isplitl [Ht]; · iexact Ht
    isplitl [Hs] <;> iassumption
  iintro ⟨HL, Hc⟩
  isplitl [HL]; · iexact HL
  isplitl [Hp]; · iexact Hp
  isplitl [Hr]; · iexact Hr
  isplitl [Hz Hk]
  · isplitl [Hz] <;> iassumption
  · iexact Hc

/-- Both halves. -/
theorem finish_all :
    iprop(live a b K c (owed c 7 14 0)
        ∗ ((each (credOf c 1) ∗ each (posOf c 1 0))
          ∗ ((bigSep Finset.univ fun h => zAt c c h (zfin a b c)) ∗ ∃ f, bigSep Finset.univ fun h => oAt c c h fullShare f)
          ∗ (each (tokOf c 2) ∗ each (tokOf c 3)) ∗ each (farOf c)))
      ⊢ runs c (two fun h => seven (fun o => scatRecv c o h) >>= fun _ => finish c h >>= fun _ => seven (gath c h))
          iprop(live a b K c (owed c 7 14 14)
            ∗ (each (posOf c 1 1) ∗ each (fun o h => rAt c o h (rfin a b c))
              ∗ ((bigSep Finset.univ fun h => zAt c c h (zfin a b c)) ∗ bigSep Finset.univ fun h => oAt c c h keptShare (ofin a b))
              ∗ each (credOf c 2))) := by
  have hl := two_each (fun n => live a b K c (owed c 7 14 (7 * n))) _ _ (finish_one a b K c)
  simp only [bigSep_sep' (Finset.univ : Finset (Fin 2))] at hl
  refine BI.Entails.trans ?_ (hl.trans (wp_mono _ _ _ fun _ => ?_))
  · rw [← each_sep, ← each_sep, each_swap, each_swap, each_swap]
    show (_ : sProp 𝕄) ⊢ (_ : sProp 𝕄)
    iintro ⟨HL, Hcp, ⟨Hz, %f, Ho⟩, Ht, Hf⟩
    isplitl [HL]; · iexact HL
    isplitl [Hcp]; · iexact Hcp
    isplitl [Hz Ho]
    · isplitl [Hz]; · iexact Hz
      iapply (some_all (fun h f => oAt c c h fullShare f) f)
      iexact Ho
    isplitl [Ht] <;> iassumption
  · rw [each_swap, each_swap, each_swap]

/-- The peers' finished halves in. -/
theorem got_all :
    iprop(live a b K c (owed c 7 14 14) ∗ each (credOf c 3) ∗ each (posOf c 3 0))
      ⊢ runs c (two fun h => seven (gathRecv c h))
          iprop(live a b K c (owed c 7 14 14) ∗ each (posOf c 3 1) ∗ each fun o h => oAt c (peer c (back o)) h fullShare (ofin a b)) := by
  rw [← each_sep, ← each_sep, each_swap, each_swap]
  exact two_each (fun _ => live a b K c (owed c 7 14 14)) _ _ fun h =>
    seven_each (fun _ => live a b K c (owed c 7 14 14)) (fun o => iprop(credOf c 3 o h ∗ posOf c 3 0 o h)) _ fun o =>
      await_runs a b K 3 c o h 14 14 (fun _ => Nat.le_refl _) (fun _ => ⟨Nat.le_refl _, Nat.le_refl _⟩) (oHalf c h) (oHalf c h)
        ((oHalf_eq c h).symm ▸ credit_o c h)

/-- The partial products read out. -/
theorem sent_all :
    iprop(live a b K c (owed c 7 14 14) ∗ each (credOf c 0) ∗ each (posOf c 0 0))
      ⊢ runs c (seven fun o => two (scatSent c o))
          iprop(live a b K c (owed c 7 14 14) ∗ each (posOf c 0 1) ∗ each fun o h => zAt c (peer c o) h (zfin a b c)) := by
  rw [← each_sep, ← each_sep]
  exact seven_each (fun _ => live a b K c (owed c 7 14 14)) _ _ fun o =>
    two_each (fun _ => live a b K c (owed c 7 14 14)) (fun h => iprop(credOf c 0 o h ∗ posOf c 0 0 o h)) _ fun h =>
      await_runs a b K 0 c o h 14 14 (fun _ => Nat.le_refl _) (fun _ => ⟨Nat.le_refl _, Nat.le_refl _⟩) (slabM o h) (zHalf c o h)
        ((zHalf_eq c o h).symm ▸ credit_z (peer c o) h)

/-- The finished halves read out. -/
theorem read_all :
    iprop(live a b K c (owed c 7 14 14) ∗ each (credOf c 2) ∗ each (posOf c 2 0))
      ⊢ runs c (two fun h => seven (gathSent c h))
          iprop(live a b K c (owed c 7 14 14) ∗ each (posOf c 2 1) ∗ each fun o h => oAt c c h (readShare o) (ofin a b)) := by
  rw [← each_sep, ← each_sep, each_swap, each_swap]
  exact two_each (fun _ => live a b K c (owed c 7 14 14)) _ _ fun h =>
    seven_each (fun _ => live a b K c (owed c 7 14 14)) (fun o => iprop(credOf c 2 o h ∗ posOf c 2 0 o h)) _ fun o =>
      await_runs a b K 2 c o h 14 14 (fun _ => Nat.le_refl _) (fun _ => ⟨Nat.le_refl _, Nat.le_refl _⟩) (oHalf c h) (oHalf c h)
        ((oHalf_eq c h).symm ▸ credit_o c h)

/-! ## The whole -/

/-- The buffers a device enters with: the staged factors, and three of any contents. -/
def bufsIn : sProp 𝕄 :=
  iprop((aIn a c ∗ bIn b c) ∗ (∃ f, zLoc c ↦{fullShare} f) ∗ (∃ f, rLoc c ↦{fullShare} f) ∗ ∃ f, oLoc c ↦{fullShare} f)
/-- What they hold at the end. -/
def bufsOut : sProp 𝕄 :=
  iprop((aIn a c ∗ bIn b c) ∗ (zLoc c ↦{fullShare} zfin a b c) ∗ (rLoc c ↦{fullShare} rfin a b c) ∗ oLoc c ↦{fullShare} ofin a b)

/-- Its positions at its cells, before round `r`. -/
def positions (r : ℕ) : sProp 𝕄 :=
  iprop(atPos ER (barCell c) r ∅ 0 ∗ each (posOf c 0 r) ∗ each (posOf c 1 r) ∗ each (posOf c 2 r) ∗ each (posOf c 3 r))
/-- The tokens of the duties it pays. -/
def tokens : sProp 𝕄 :=
  iprop((bigSep Finset.univ fun o => dutyTok ER (barCell (peer c o)) 0 (back o))
    ∗ each (tokOf c 0) ∗ each (tokOf c 1) ∗ each (tokOf c 2) ∗ each (tokOf c 3))
/-- The credits of the cells others pay. -/
def credits : sProp 𝕄 := iprop(cred (tallyAt (barCell c) () 7) ∗ each (credOf c 1) ∗ each (credOf c 3))

/-- The own halves' kept and lent shares and the halves that landed make the whole result buffer. -/
theorem o_collect (f : Vec F S1024x1024 .f32) :
    iprop((bigSep Finset.univ fun h => oAt c c h keptShare f) ∗ (each fun o h => oAt c c h (readShare o) f)
        ∗ each fun o h => oAt c (peer c (back o)) h fullShare f) ⊢ oLoc c ↦{fullShare} f := by
  rw [o_halves c f, each_back (fun o h => oAt c (peer c o) h fullShare f), each_swap (fun o h => oAt c c h (readShare o) f)]
  simp only [o_shares]
  rw [bigSep_sep']
  iintro ⟨Hk, Hs, Hg⟩
  isplitl [Hk Hs]
  · isplitl [Hs] <;> iassumption
  · iexact Hg

/-- The body of device `c`. -/
theorem run_runs :
    iprop(live a b K c (owed c 0 0 0) ∗ positions c 0 ∗ tokens c ∗ credits c ∗ bufsIn a b c)
      ⊢ runs c (run c) iprop(live a b K c 0 ∗ positions c 1 ∗ bufsOut a b c) := by
  unfold run positions tokens credits bufsIn
  iintro ⟨HL, ⟨HpB, Hp0, Hp1, Hp2, Hp3⟩, ⟨HtB, Ht0, Ht1, Ht2, Ht3⟩, ⟨HcB, Hc1, Hc3⟩, ⟨Ha, Hb⟩, ⟨%fz, Hz⟩, ⟨%fr, Hr⟩, ⟨%fo, Ho⟩⟩
  ihave Hr := (Entails.of_eq (r_slabs c fr)) $$ Hr
  ihave Ho := (Entails.of_eq (o_halves c fo)) $$ Ho
  icases Ho with ⟨Ho, Hf⟩
  ihave Hz := (Entails.of_eq (z_blocks c fz)) $$ Hz
  icases Hz with ⟨Hz, Hzs⟩
  -- every peer told
  iapply (part_step (tell_all a b K c)) $$ [HL HtB Hr Hf]
  · isplitl [HL]; · iexact HL
    rw [bigSep_sep']
    isplitl [HtB]; · iexact HtB
    iapply (bar_out c)
    isplitl [Hr]
    · iapply (each_mono (Φ := fun o h => rAt c o h fr) (Ψ := fun o h => iprop(∃ f, rAt c o h f)) fun o h => by
        iintro H; iexists fr; iexact H)
      iexact Hr
    · iapply (each_mono (Φ := fun o h => oAt c (peer c o) h fullShare fo) (Ψ := fun o h => iprop(∃ f, oAt c (peer c o) h fullShare f)) fun o h => by
        iintro H; iexists fo; iexact H)
      iexact Hf
  iintro ⟨HL, -⟩
  -- every peer met
  iapply (part_step (meet_runs a b K c)) $$ [HL HcB HpB]
  · isplitl [HL]; · iexact HL
    isplitl [HcB] <;> iassumption
  rw [bar_in]
  iintro ⟨HL, HpB, Hs, Hf⟩
  -- the partial products out
  iapply (part_step (scat_all a b K c)) $$ [HL Ha Hb Hzs Ht0 Ht1 Hs]
  · isplitl [HL Ha Hb]
    · isplitl [HL]; · iexact HL
      isplitl [Ha] <;> iassumption
    isplitl [Hzs]; · iexists fz; iexact Hzs
    isplitl [Ht0 Ht1]
    · isplitl [Ht0] <;> iassumption
    unfold slabOf; iexact Hs
  iintro ⟨⟨HL, Ha, Hb⟩, Hc0⟩
  -- its own
  iapply (part_step (mulOwn_runs a b c)) $$ [Ha Hb Hz]
  · isplitl [Ha Hb]
    · isplitl [Ha] <;> iassumption
    iexists fz; iexact Hz
  rw [zBlk_halves]
  iintro ⟨⟨Ha, Hb⟩, Hz⟩
  -- the halves finished and out
  iapply (part_step (finish_all a b K c)) $$ [HL Hc1 Hp1 Hz Ho Ht2 Ht3 Hf]
  · isplitl [HL]; · iexact HL
    isplitl [Hc1 Hp1]
    · isplitl [Hc1] <;> iassumption
    isplitl [Hz Ho]
    · isplitl [Hz]; · iexact Hz
      iexists fo; iexact Ho
    isplitl [Ht2 Ht3]
    · isplitl [Ht2] <;> iassumption
    unfold farOf; iexact Hf
  iintro ⟨HL, Hp1, Hr, ⟨Hz, Ho⟩, Hc2⟩
  -- the peers' halves in, and everything read out
  iapply (part_step (got_all a b K c)) $$ [HL Hc3 Hp3]
  · isplitl [HL]; · iexact HL
    isplitl [Hc3] <;> iassumption
  iintro ⟨HL, Hp3, Hg⟩
  iapply (part_step (sent_all a b K c)) $$ [HL Hc0 Hp0]
  · isplitl [HL]; · iexact HL
    isplitl [Hc0] <;> iassumption
  iintro ⟨HL, Hp0, Hzs⟩
  iapply (last_step (read_all a b K c)) $$ [HL Hc2 Hp2]
  · isplitl [HL]; · iexact HL
    isplitl [Hc2] <;> iassumption
  iintro ⟨HL, Hp2, Hs⟩
  isplitl [HL]; · rw [owed_end]; iexact HL
  isplitl [HpB Hp0 Hp1 Hp2 Hp3]
  · isplitl [HpB]; · iexact HpB
    isplitl [Hp0]; · iexact Hp0
    isplitl [Hp1]; · iexact Hp1
    isplitl [Hp2] <;> iassumption
  unfold bufsOut
  isplitl [Ha Hb]
  · isplitl [Ha] <;> iassumption
  isplitl [Hz Hzs]
  · rw [z_halves]
    isplitl [Hz] <;> iassumption
  isplitl [Hr]; · rw [r_slabs]; iexact Hr
  iapply (o_collect c (ofin a b))
  isplitl [Ho]; · iexact Ho
  isplitl [Hs] <;> iassumption

end Cert.Reduce

end
-- ==== Proof.Cells.lean ====
/-
The cells at launch: funded together, their duties' tokens dealt around the ring to the devices that pay them, their
credits to the devices that wait on them.
-/
module

public import proofs.«01_k».proof.Proof.Body
public import proofs.«01_k».proof.Proof.Gen.KernelIdeal.Launch

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (a : Dev nD → Vec F S1024x512 .f32) (b : Dev nD → Vec F S512x1024 .f32)

/-! ## The cells as an index -/

/-- The transfer semaphores as the launch indexes them; with the barrier's, all of a device's. -/
abbrev ownSem (x : Fin 4 × Fin 7 × Fin 2) : SemLoc sig := .dma (xSem x.1 x.2.1 x.2.2)
abbrev semAt : CellIx → SemLoc sig
  | none => .reg barS
  | some (k, o, h) => .dma (xSem k o h)

/-- Different places of the index name different semaphores. -/
theorem semAt_inj : Function.Injective semAt := by
  intro x y e
  match x, y, e with
  | none, none, _ => rfl
  | none, some (k, o, h), e => cases e
  | some (k, o, h), none, e => cases e
  | some (k, o, h), some (k', o', h'), e => rw [xSem_inj (SemLoc.dma.inj e)]

/-- A device's cell is its core's semaphore of that place. -/
theorem cellAt_eq (c : Dev nD) (x : CellIx) : cellAt c x = ((c : Thread nD τ), semAt x) := by
  match x with
  | none => rfl
  | some (k, o, h) => rfl

/-- Different devices or places have different cells. -/
theorem cells_inj : Function.Injective (fun p : Dev nD × CellIx => cellAt p.1 p.2) := by
  rintro ⟨c, x⟩ ⟨d, y⟩ e
  have e : cellAt c x = cellAt d y := e
  rw [cellAt_eq, cellAt_eq] at e
  have h1 : c = d := congrArg (fun g : GSem nD τ sig => g.1.1) e
  have h2 : semAt x = semAt y := congrArg Prod.snd e
  rw [h1, semAt_inj h2]

/-- The places other than the barrier's are those of the transfers. -/
theorem ix_others : (Finset.univ : Finset CellIx).erase none = Finset.univ.map ⟨some, Option.some_injective _⟩ := by
  ext x; cases x <;> simp

omit [FloatOps F] in
/-- One assertion for every transfer cell, role by role. -/
theorem roles_split (Φ : Fin 4 × Fin 7 × Fin 2 → sProp 𝕄) :
    bigSep Finset.univ Φ = iprop(each (fun o h => Φ (0, o, h)) ∗ each (fun o h => Φ (1, o, h)) ∗ each (fun o h => Φ (2, o, h))
      ∗ each fun o h => Φ (3, o, h)) := by
  rw [bigSep_univ_prod, bigSep_univ_eq_bigSepL [(0 : Fin 4), 1, 2, 3] (by decide) (by decide)]
  simp only [each_pairs]
  rfl

omit [FloatOps F] in
/-- One assertion for every cell of a device: for its barrier, and role by role. -/
theorem cells_split (Φ : CellIx → sProp 𝕄) :
    bigSep Finset.univ Φ = iprop(Φ none ∗ bigSep Finset.univ fun x => Φ (some x)) := by
  rw [bigSep_univ_split none, ix_others, Idealize.SL.BI.bigSep_map]; rfl

/-- A device's positions, listed by role, are one position for each of its cells. -/
theorem positions_eq (c : Dev nD) (r : ℕ) : (positions c r : sProp 𝕄) = bigSep Finset.univ fun x : CellIx => atPos ER (cellAt c x) r ∅ 0 := by
  rw [cells_split, roles_split]; rfl

/-! ## Funding -/

def ringCells : Finset (GSem nD τ sig) := Finset.univ.map ⟨fun p : Dev nD × CellIx => cellAt p.1 p.2, cells_inj⟩

/-- A device's own cells' duties: seven of its barrier, one of each transfer cell. -/
abbrev DutyIx : Type := Fin 7 ⊕ (Fin 4 × Fin 7 × Fin 2)
abbrev dutyAt (p : Dev nD × DutyIx) : GSem nD τ sig × ℕ × Fin 7 :=
  match p.2 with
  | .inl d => (barCell p.1, 0, d)
  | .inr x => (xCell x.1 p.1 x.2.1 x.2.2, 0, 0)

/-- Different duties of the launch are different duties of the schedule. -/
theorem duties_inj : Function.Injective dutyAt := by
  rintro ⟨c, x⟩ ⟨d, y⟩ e
  have h1 : c = d := by
    have := congrArg (fun z : GSem nD τ sig × ℕ × Fin 7 => z.1.1.1) e
    cases x <;> cases y <;> exact this
  subst h1
  match x, y, e with
  | .inl i, .inl j, e =>
    have h : i = j := congrArg (fun z : GSem nD τ sig × ℕ × Fin 7 => z.2.2) e
    rw [h]
  | .inl i, .inr y, e => exact absurd (congrArg (fun z : GSem nD τ sig × ℕ × Fin 7 => z.1.2) e) (fun h => by cases h)
  | .inr x, .inl j, e => exact absurd (congrArg (fun z : GSem nD τ sig × ℕ × Fin 7 => z.1.2) e) (fun h => by cases h)
  | .inr x, .inr y, e =>
    have h : SemLoc.dma (xSem x.1 x.2.1 x.2.2) = SemLoc.dma (xSem y.1 y.2.1 y.2.2) :=
      congrArg (fun z : GSem nD τ sig × ℕ × Fin 7 => z.1.2) e
    have : x = y := xSem_inj (SemLoc.dma.inj h)
    rw [this]

def ringDuties : Finset (GSem nD τ sig × ℕ × Fin 7) := Finset.univ.map ⟨dutyAt, duties_inj⟩

/-- The tokens of the duties of device `c`'s own cells. -/
def ownToks (c : Dev nD) : sProp 𝕄 :=
  iprop((bigSep Finset.univ fun d : Fin 7 => dutyTok ER (barCell c) 0 d)
    ∗ bigSep Finset.univ fun x : Fin 4 × Fin 7 × Fin 2 => dutyTok ER (xCell x.1 c x.2.1 x.2.2) 0 0)

/-- What the funding deals device `c`. -/
def dealt (c : Dev nD) : sProp 𝕄 :=
  iprop((bigSep Finset.univ fun x : CellIx => roundState ER (sched a b) (cellAt c x) 0)
    ∗ (bigSep Finset.univ fun x : CellIx => iprop(atPos ER (cellAt c x) 0 ∅ 0 ∗ reached ER (cellAt c x) 0)) ∗ ownToks c)

/-- The launch's fund of rounds yields what it deals every device. -/
theorem fund_ring : BI.own (ER (initOf ringCells ringDuties)) ⊢ (|==> bigSep Finset.univ (dealt a b) : sProp 𝕄) := by
  have hX (Φ : GSem nD τ sig → sProp 𝕄) :
      bigSep ringCells Φ = bigSep Finset.univ fun c : Dev nD => bigSep Finset.univ fun x : CellIx => Φ (cellAt c x) := by
    unfold ringCells; rw [Idealize.SL.BI.bigSep_map, bigSep_univ_prod]; rfl
  have hT : bigSep ringDuties (fun x => (dutyTok ER x.1 x.2.1 x.2.2 : sProp 𝕄)) = bigSep Finset.univ fun c : Dev nD => ownToks c := by
    unfold ringDuties; rw [Idealize.SL.BI.bigSep_map, bigSep_univ_prod]
    exact bigSep_congr fun c _ => by unfold ownToks; rw [bigSep_univ_sum]; rfl
  iintro HX
  imod (Rounds.fund ER (sched a b) ringCells ringDuties) $$ HX with ⟨Hst, Hr, Hat, Htok⟩
  imodintro
  ihave Hst' := (Entails.of_eq (hX fun g => roundState ER (sched a b) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The invariants -/

omit [FloatOps F] in
/-- The launch's counters of a device's transfer semaphores are those of its transfer cells. -/
theorem ownSems_eq (c : Dev nD) : (Pipeline.ownSems0 (Ix := Unit) (Name := ℕ) (U := UU) (Lvl := ℕ) (Val := Elt F) (τ := τ) ownSem c : sProp 𝕄)
    = bigSep Finset.univ fun x : Fin 4 × Fin 7 × Fin 2 => semVal (xCell x.1 c x.2.1 x.2.2) 0 := rfl

omit [FloatOps F] in
/-- The one counter that no region scopes is the barrier's. -/
theorem barrier_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters at zero, of all its cells. -/
theorem zeros_eq (c : Dev nD) :
    (bigSep Finset.univ fun x : CellIx => semVal (cellAt c x) 0 : sProp 𝕄)
      = iprop(unscopedSems0 c ∗ Pipeline.ownSems0 (Ix := Unit) (Name := ℕ) (U := UU) (Lvl := ℕ) (Val := Elt F) (τ := τ) ownSem c) := by
  rw [cells_split, ownSems_eq, barrier_eq]

/-- A device's counters at zero and its cells' states become its cells' invariants; its positions and tokens stay. -/
theorem core_alloc (c : Dev nD) :
    iprop(Pipeline.ownSems0 (Ix := Unit) (Name := ℕ) (U := UU) (Lvl := ℕ) (Val := Elt F) (τ := τ) ownSem c ∗ unscopedSems0 c ∗ dealt a b c)
      ⊢ |={Set.univ}=> iprop((bigSep Finset.univ fun x => iprop(∃ κ : ℕ, cellInv ER (sched a b) κ (cellAt c x)))
          ∗ (bigSep Finset.univ fun x => iprop(atPos ER (cellAt c x) 0 ∅ 0 ∗ reached ER (cellAt c x) 0)) ∗ ownToks c) := by
  unfold dealt
  iintro ⟨Hos, Hus, Hst, Hat, Htok⟩
  ihave Hv := (Entails.of_eq (zeros_eq (F := F) c).symm) $$ [Hos Hus]
  · isplitl [Hus] <;> iassumption
  imod (show iprop((bigSep Finset.univ fun x : CellIx => semVal (cellAt c x) 0) ∗ bigSep Finset.univ fun x : CellIx => roundState ER (sched a b) (cellAt c x) 0)
      ⊢ (|={Set.univ}=> bigSep Finset.univ fun x => iprop(∃ κ : ℕ, cellInv ER (sched a b) κ (cellAt c x)) : sProp 𝕄) from by
        rw [← bigSep_sep']
        exact (bigSep_mono fun x _ => (Rounds.body_intro ER (sched a b) (cellAt c x)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens around the ring -/

omit [FloatOps F] in
/-- One assertion for every device and peer, by the device that has this one as that peer. -/
theorem around (Φ : Dev nD → Fin 7 → sProp 𝕄) :
    (bigSep Finset.univ fun c : Dev nD => bigSep Finset.univ fun o : Fin 7 => Φ c o)
      = bigSep Finset.univ fun c : Dev nD => bigSep Finset.univ fun o : Fin 7 => Φ (peer c o) o := by
  rw [Idealize.SL.BI.bigSep_univ_comm, Idealize.SL.BI.bigSep_univ_comm (fun (c : Dev nD) (o : Fin 7) => Φ (peer c o) o)]
  exact bigSep_congr fun o _ => bigSep_univ_equiv (turn o) (fun c => Φ c o)

omit [FloatOps F] in
/-- The tokens of all devices' own duties are the tokens of the duties that all devices pay. -/
theorem toks_around : (bigSep Finset.univ fun c : Dev nD => (ownToks c : sProp 𝕄)) = bigSep Finset.univ fun c : Dev nD => tokens c := by
  have hb : (bigSep Finset.univ fun c : Dev nD => bigSep Finset.univ fun d : Fin 7 => (dutyTok ER (barCell c) 0 d : sProp 𝕄))
      = bigSep Finset.univ fun c : Dev nD => bigSep Finset.univ fun o : Fin 7 => dutyTok ER (barCell (peer c o)) 0 (back o) := by
    rw [← bigSep_univ_prod (fun p : Dev nD × Fin 7 => (dutyTok ER (barCell p.1) 0 p.2 : sProp 𝕄)),
      bigSep_univ_equiv flip, bigSep_univ_prod]
    rfl
  have hx (k : Fin 4) : (bigSep Finset.univ fun c : Dev nD => each fun o h => (dutyTok ER (xCell k c o h) 0 0 : sProp 𝕄))
      = bigSep Finset.univ fun c : Dev nD => each (tokOf c k) := by
    match k with
    | 0 => rfl
    | 1 => exact around fun c o => bigSep Finset.univ fun h => dutyTok ER (xCell 1 c o h) 0 0
    | 2 => rfl
    | 3 => exact around fun c o => bigSep Finset.univ fun h => dutyTok ER (xCell 3 c o h) 0 0
  unfold ownToks tokens
  simp only [roles_split, bigSep_sep']
  rw [hb, hx 0, hx 1, hx 2, hx 3]

/-- The cells' invariants under the names `K`, and that each cell is at round 0. -/
def ledger (K : Dev nD × CellIx → ℕ) : sProp 𝕄 :=
  iprop((bigSep Finset.univ fun p : Dev nD × CellIx => cellInv ER (sched a b) (K p) (cellAt p.1 p.2))
    ∗ bigSep Finset.univ fun p : Dev nD × CellIx => reached ER (cellAt p.1 p.2) 0)

instance ledger_persistent (K : Dev nD × CellIx → ℕ) : BI.Persistent (ledger a b K) := by unfold ledger; infer_instance

/-- What a device holds of the cells once all are allocated. -/
def held (c : Dev nD) : sProp 𝕄 := iprop(∃ K, ledger a b K ∗ positions c 0 ∗ tokens c)

/-- The invariants of every device's cells shared out, the tokens dealt to their payers. -/
theorem deal :
    (bigSep Finset.univ fun c : Dev nD => iprop((bigSep Finset.univ fun x => iprop(∃ κ : ℕ, cellInv ER (sched a b) κ (cellAt c x)))
          ∗ (bigSep Finset.univ fun x => iprop(atPos ER (cellAt c x) 0 ∅ 0 ∗ reached ER (cellAt c x) 0)) ∗ ownToks c) : sProp 𝕄)
      ⊢ bigSep Finset.univ (held a b) := by
  rw [bigSep_sep', bigSep_sep', toks_around, ← bigSep_univ_prod (fun p : Dev nD × CellIx => iprop(∃ κ : ℕ, cellInv ER (sched a b) κ (cellAt p.1 p.2))),
    bigSep_congr (s := Finset.univ) (fun (c : Dev nD) _ => bigSep_sep' Finset.univ (fun x : CellIx => (atPos ER (cellAt c x) 0 ∅ 0 : sProp 𝕄)) (fun x => reached ER (cellAt c x) 0)),
    bigSep_sep', ← bigSep_univ_prod (fun p : Dev nD × CellIx => (reached ER (cellAt p.1 p.2) 0 : sProp 𝕄))]
  iintro ⟨HI, ⟨Hat, #HR⟩, Htok⟩
  ihave HK := (BI.bigSep_exists_pi Finset.univ (fun (p : Dev nD × CellIx) (κ : ℕ) => (cellInv ER (sched a b) κ (cellAt p.1 p.2) : sProp 𝕄))) $$ HI
  icases HK with ⟨%K, #HI⟩
  iapply (show iprop(ledger a b K ∗ (bigSep Finset.univ fun c : Dev nD => bigSep Finset.univ fun x : CellIx => atPos ER (cellAt c x) 0 ∅ 0)
        ∗ bigSep Finset.univ fun c : Dev nD => tokens c) ⊢ (bigSep Finset.univ (held a b) : sProp 𝕄) from by
      rw [← bigSep_sep']
      refine (sep_mono_left (BI.bigSep_of_persistent (Finset.univ : Finset (Dev nD)) (ledger a b K))).trans ?_
      rw [← bigSep_sep']
      refine bigSep_mono fun c _ => ?_
      rw [← positions_eq]
      unfold held
      show (_ : sProp 𝕄) ⊢ (_ : sProp 𝕄)
      iintro H; iexists K; iexact H)
  isplitr
  · unfold ledger; isplitl; · iexact HI
    iexact HR
  isplitl [Hat] <;> iassumption

/-- All the counters at once: every cell's invariant allocated, and what comes of it dealt. -/
theorem glob :
    (bigSep Finset.univ fun c => iprop(Pipeline.ownSems0 (Ix := Unit) (Name := ℕ) (U := UU) (Lvl := ℕ) (Val := Elt F) (τ := τ) ownSem c
        ∗ unscopedSems0 c ∗ dealt a b c) : sProp 𝕄) ⊢ |={Set.univ}=> bigSep Finset.univ (held a b) :=
  ((bigSep_mono fun c _ => core_alloc a b c).trans (bigSep_fupd _ _)).trans (BI.fupd_mono (deal a b))

/-! ## The credits -/

/-- A sum over the devices of what each owes to its peers is one over the devices owed. -/
theorem turned {ι : Type} [Fintype ι] (f : ι → Fin 7) (w : ι → Dev nD → ℕ) :
    ∑ d : Dev nD, ∑ p : ι, w p (peer d (f p)) = ∑ p : ι, ∑ c : Dev nD, w p c := by
  rw [Finset.sum_comm]
  exact Finset.sum_congr rfl fun p _ => Equiv.sum_comp (turn (f p)) (w p)

/-- The debts of all devices, by the cell they are owed to. -/
theorem owed_total (g : GSem nD τ sig) (u : Unit) :
    ∑ d : Dev nD, owed d 0 0 0 g u
      = (∑ p : Fin 7 × Fin 2, ∑ c : Dev nD, (tallyAt (xCell 3 c p.1 p.2) () N : CellTallies nD τ sig Unit) g u)
        + (∑ p : Fin 7 × Fin 2, ∑ c : Dev nD, (tallyAt (xCell 1 c p.1 p.2) () N : CellTallies nD τ sig Unit) g u)
        + ∑ o : Fin 7, ∑ c : Dev nD, (tallyAt (barCell c) () 1 : CellTallies nD τ sig Unit) g u := by
  have e (d : Dev nD) : owed d 0 0 0 g u
      = (∑ p : Fin 7 × Fin 2, (tallyAt (xCell 3 (peer d p.1) p.1 p.2) () N : CellTallies nD τ sig Unit) g u)
        + (∑ p : Fin 7 × Fin 2, (tallyAt (xCell 1 (peer d p.1) p.1 p.2) () N : CellTallies nD τ sig Unit) g u)
        + ∑ o : Fin 7, (tallyAt (barCell (peer d o)) () 1 : CellTallies nD τ sig Unit) g u := by
    unfold owed gotOwed landOwed barOwed
    rw [from'_zero, from'_zero, from'_zero]
    simp only [Pi.add_apply, Finsupp.add_apply, Finset.sum_apply, Finsupp.finsetSum_apply]
  rw [Finset.sum_congr rfl fun d _ => e d, Finset.sum_add_distrib, Finset.sum_add_distrib,
    turned (fun p : Fin 7 × Fin 2 => p.1) (fun p c => (tallyAt (xCell 3 c p.1 p.2) () N : CellTallies nD τ sig Unit) g u),
    turned (fun p : Fin 7 × Fin 2 => p.1) (fun p c => (tallyAt (xCell 1 c p.1 p.2) () N : CellTallies nD τ sig Unit) g u),
    turned (fun o : Fin 7 => o) (fun o c => (tallyAt (barCell c) () 1 : CellTallies nD τ sig Unit) g u)]

/-- At the cells waited on: a barrier is owed its seven units, -/
theorem total_bar (c : Dev nD) : ∑ d : Dev nD, owed d 0 0 0 (barCell c) () = 7 := by
  rw [owed_total]
  have hx (k : Fin 4) (p : Fin 7 × Fin 2) (c' : Dev nD) : (tallyAt (xCell k c' p.1 p.2) () N : CellTallies nD τ sig Unit) (barCell c) () = 0 := by
    rw [tallyAt_apply, if_neg]
    rintro ⟨h, -⟩
    cases congrArg Prod.snd h
  have hb (c' : Dev nD) : (tallyAt (barCell c') () 1 : CellTallies nD τ sig Unit) (barCell c) () = if c = c' then 1 else 0 := by
    rw [tallyAt_apply]
    refine if_congr ⟨fun h => congrArg (fun g : GSem nD τ sig => g.1.1) h.1, fun h => ⟨h ▸ rfl, rfl⟩⟩ rfl rfl
  simp only [hx, hb, Finset.sum_const_zero, Finset.sum_ite_eq, Finset.mem_univ, if_true, Finset.sum_const]
  rfl

/-- and a cell where a piece lands its transfer's credit. -/
theorem total_x (k : Fin 4) (hk : k = 1 ∨ k = 3) (c : Dev nD) (o : Fin 7) (h : Fin 2) :
    ∑ d : Dev nD, owed d 0 0 0 (xCell k c o h) () = N := by
  rw [owed_total]
  have hb (c' : Dev nD) : (tallyAt (barCell c') () 1 : CellTallies nD τ sig Unit) (xCell k c o h) () = 0 := by
    rw [tallyAt_apply, if_neg]
    rintro ⟨h, -⟩
    cases congrArg Prod.snd h
  have hx (k' : Fin 4) (p : Fin 7 × Fin 2) (c' : Dev nD) :
      (tallyAt (xCell k' c' p.1 p.2) () N : CellTallies nD τ sig Unit) (xCell k c o h) ()
        = if k = k' then (if (o, h) = p then (if c = c' then N else 0) else 0) else 0 := by
    rw [tallyAt_apply]
    by_cases hc : k = k' ∧ (o, h) = p ∧ c = c'
    · obtain ⟨rfl, rfl, rfl⟩ := hc
      rw [if_pos ⟨rfl, rfl⟩, if_pos rfl, if_pos rfl, if_pos rfl]
    · rw [if_neg]
      · by_cases h1 : k = k'
        · by_cases h2 : (o, h) = p
          · by_cases h3 : c = c'
            · exact absurd ⟨h1, h2, h3⟩ hc
            · rw [if_pos h1, if_pos h2, if_neg h3]
          · rw [if_pos h1, if_neg h2]
        · rw [if_neg h1]
      · rintro ⟨e, -⟩
        have e1 : c = c' := congrArg (fun g : GSem nD τ sig => g.1.1) e
        have e2 : (k, o, h) = (k', p.1, p.2) := xSem_inj (SemLoc.dma.inj (congrArg Prod.snd e))
        exact hc ⟨congrArg Prod.fst e2, congrArg Prod.snd e2, e1⟩
  simp only [hx, hb, Finset.sum_const_zero]
  rcases hk with rfl | rfl
  · rw [Finset.sum_eq_zero (fun p _ => Finset.sum_eq_zero fun c' _ => if_neg (by decide)),
      Finset.sum_eq_single (o, h) (fun p _ hp => Finset.sum_eq_zero fun c' _ => by rw [if_pos rfl, if_neg (Ne.symm hp)]) (fun hn => absurd (Finset.mem_univ _) hn)]
    simp
  · rw [Finset.sum_comm' (t' := Finset.univ) (s' := fun _ => Finset.univ) (by simp) (f := fun (p : Fin 7 × Fin 2) (c' : Dev nD) => if (3 : Fin 4) = 1 then (if (o, h) = p then (if c = c' then N else 0) else 0) else 0),
      Finset.sum_eq_zero (s := (Finset.univ : Finset (Dev nD))) (fun c' _ => Finset.sum_eq_zero fun p _ => if_neg (by decide)),
      Finset.sum_eq_single (o, h) (fun p _ hp => Finset.sum_eq_zero fun c' _ => by rw [if_pos rfl, if_neg (Ne.symm hp)]) (fun hn => absurd (Finset.mem_univ _) hn)]
    simp

/-- The debts at launch. -/
abbrev owedAll (c : Dev nD) : CellTallies nD τ sig Unit := owed c 0 0 0

/-- If the devices together owe a cell `n` units, the launch's credit on it is `n`. -/
theorem launch_of (g : GSem nD τ sig) (n : ℕ) (h : ∑ d : Dev nD, owed d 0 0 0 g () = n) :
    (tallyOn g (launchCredit (Pipeline.owing owedAll) 0 g) : CellTallies nD τ sig Unit) = tallyAt g () n := by
  unfold tallyAt; refine congrArg _ (Finsupp.ext fun u => ?_); cases u
  rw [Pipeline.launchCredit_owing, Finsupp.single_eq_same]
  exact h

omit [FloatOps F] in
/-- The credits dealt to a device at launch. -/
theorem creds (c : Dev nD) : (Pipeline.launchCred owedAll c : sProp 𝕄) ⊢ credits c := by
  have hsub : (Pipeline.launchCred owedAll c : sProp 𝕄)
      ⊢ bigSep Finset.univ fun x : CellIx => cred (tallyOn ((c : Thread nD τ), semAt x) (launchCredit (Pipeline.owing owedAll) 0 ((c : Thread nD τ), semAt x))) := by
    unfold Pipeline.launchCred
    exact (BI.bigSep_subset (Finset.subset_univ (Finset.univ.map ⟨semAt, semAt_inj⟩))).trans
      (Entails.of_eq (Idealize.SL.BI.bigSep_map _))
  refine hsub.trans ?_
  rw [cells_split, roles_split]
  have hb := launch_of (barCell c) 7 (total_bar c)
  have h1 (o : Fin 7) (h : Fin 2) := launch_of (xCell 1 c o h) N (total_x 1 (Or.inl rfl) c o h)
  have h3 (o : Fin 7) (h : Fin 2) := launch_of (xCell 3 c o h) N (total_x 3 (Or.inr rfl) c o h)
  unfold credits credOf
  simp only [← hb, ← h1, ← h3]
  show (_ : sProp 𝕄) ⊢ (_ : sProp 𝕄)
  iintro ⟨HB, -, H1, -, H3⟩
  isplitl [HB]; · iexact HB
  isplitl [H1] <;> iassumption

end Cert.Reduce

end
-- ==== Proof.Launch.lean ====
/-
The launch: the body at its one point, from the arrays the machine starts with; the run.
-/
module

public import proofs.«01_k».proof.Proof.Cells
public import proofs.«01_k».proof.Proof.Gen.KernelIdeal.Points
public import Idealize.ShloMosaic.Lib.Pipeline.CollectiveSegs

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arrays -/

/-- The devices' blocks of the two arguments, as the memory holds them. -/
def aArr (c : Dev nD) : Vec F S1024x512 .f32 := m ((c : Thread nD τ).loc main_arg0)
def bArr (c : Dev nD) : Vec F S512x1024 .f32 := m ((c : Thread nD τ).loc main_arg1)

/-! ## The one point -/

/-- What the body starts from: its share of the cells, its credits, the levels, -/
def start (c : Dev nD) : sProp 𝕄 := iprop(held (aArr m) (bArr m) c ∗ credits c ∗ levAts L lv)
/-- and the buffers the pipeline does not stage; -/
def entry (c : Dev nD) : sProp 𝕄 :=
  iprop(start m c ∗ (∃ f, zLoc c ↦{fullShare} f) ∗ ∃ f, rLoc c ↦{fullShare} f)
/-- what it ends with: those buffers filled, its counters at zero. -/
def exit (c : Dev nD) : sProp 𝕄 :=
  iprop((zLoc c ↦{fullShare} zfin (aArr m) (bArr m) c) ∗ (rLoc c ↦{fullShare} rfin (aArr m) (bArr m) c)
    ∗ bigSep Finset.univ fun x : CellIx => semVal (cellAt c x) 0)

def dats (_ : Fin 1) (c : Dev nD) : Dat τ (Elt F) Unit ℕ UU ℕ cfg0 c where
  A w := m ((cfg0.win w).arr.view.loc (c : Thread nD τ))
  after w _ := match w with
    | ⟨0, _⟩ => aArr m c
    | ⟨1, _⟩ => bArr m c
    | ⟨2, _⟩ => ofin (aArr m) (bArr m)
  Φ t := match t with
    | ⟨0, _⟩ => entry m c
    | ⟨_ + 1, _⟩ => exit m c
  q _ := fullShare
  owed t := match t with
    | ⟨0, _⟩ => owedAll c
    | ⟨_ + 1, _⟩ => 0

/-- Every window is held whole. -/
theorem share_eq (c : Dev nD) (w : Fin cfg0.W) : (dats m 0 c).share w = fullShare := by unfold Dat.share; split <;> rfl

/-! ### A window whose block is the whole array -/

/-- The left factor's one block starts at the array's origin; -/
theorem index_a : (fun d => (win0_0.index (0 : Fin 1)) d * main_arg0.ty.shape.size d) = fun _ => 0 := funext fun d => Nat.zero_mul _
/-- the right factor's likewise; -/
theorem index_b : (fun d => (win0_1.index (0 : Fin 1)) d * main_arg1.ty.shape.size d) = fun _ => 0 := funext fun d => Nat.zero_mul _
/-- and the result's. -/
theorem index_o : (fun d => (win0_2.index (0 : Fin 1)) d * main_v1.ty.shape.size d) = fun _ => 0 := funext fun d => Nat.zero_mul _

/-- The left factor's one block is the whole array; -/
theorem block_a (f : main_arg0.ty.Contents (Elt F)) : (win0_0.blk (0 : Fin 1)).view.read (Elt F) f = f :=
  Memref.read_access_unit_zero (Elt F) main_arg0 index_a (fun d => by fin_cases d <;> decide) f
/-- the right factor's likewise; -/
theorem block_b (f : main_arg1.ty.Contents (Elt F)) : (win0_1.blk (0 : Fin 1)).view.read (Elt F) f = f :=
  Memref.read_access_unit_zero (Elt F) main_arg1 index_b (fun d => by fin_cases d <;> decide) f
/-- and the result's. -/
theorem block_o (f : main_v1.ty.Contents (Elt F)) : (win0_2.blk (0 : Fin 1)).view.read (Elt F) f = f :=
  Memref.read_access_unit_zero (Elt F) main_v1 index_o (fun d => by fin_cases d <;> decide) f

/-- The body finds each argument's block in its staging buffer. -/
theorem found_a (c : Dev nD) (d) : (dats m 0 c).before (0 : Fin 3) t0_0 d = aArr m c := by
  unfold Dat.before; rw [if_pos (fetch0_0 t0_0)]; exact block_a (m ((c : Thread nD τ).loc main_arg0))
/-- The right factor's likewise. -/
theorem found_b (c : Dev nD) (d) : (dats m 0 c).before (1 : Fin 3) t0_0 d = bArr m c := by
  unfold Dat.before; rw [if_pos (fetch0_1 t0_0)]; exact block_b (m ((c : Thread nD τ).loc main_arg1))

/-! ### The cells closed -/

/-- After its one round every cell of a device is closed, its counter at zero. -/
theorem close_all (a : Dev nD → Vec F S1024x512 .f32) (b : Dev nD → Vec F S512x1024 .f32) (K : Dev nD × CellIx → ℕ) (c : Dev nD) :
    iprop(records a b K ∗ positions c 1) ⊢ (|={Set.univ}=> bigSep Finset.univ fun x : CellIx => semVal (cellAt c x) 0 : sProp 𝕄) := by
  rw [positions_eq]
  refine (sep_mono_left (BI.bigSep_of_persistent (Finset.univ : Finset CellIx) (records a b K))).trans ?_
  rw [← bigSep_sep']
  refine (bigSep_mono fun x _ => ?_).trans (bigSep_fupd _ _)
  show (_ : sProp 𝕄) ⊢ (_ : sProp 𝕄)
  iintro ⟨#HR, Hp⟩
  iapply (Rounds.cell_close ER (sched a b) (Set.mem_univ _) (fun h => h) (R := 1) (duties_later a b (cellAt c x)))
  isplitr; · iapply (inv_of a b K c x); iexact HR
  iexact Hp

/-! ### The body -/

omit [FloatOps F] in
/-- Owning a whole buffer with given contents is holding its elements with those contents. -/
theorem owns_buf (c : Dev nD) (r : Ref sig .tc) (X : r.ty.Contents (Elt F)) :
    (owns (Ix := Unit) (Name := ℕ) (U := UU) (Lvl := ℕ) (c : Thread nD τ) (Memref.whole r) fullShare X : sProp 𝕄)
      = iprop(∃ f : Buf (Elt F) ((c : Thread nD τ).loc r), ⌜f = X⌝ ∗ ((c : Thread nD τ).loc r ↦{fullShare} f)) := by
  unfold owns; simp only [Memref.view_whole, View.read_whole, View.set_whole]

abbrev stg (c : Dev nD) (r : Ref sig .tc) (X : r.ty.Contents (Elt F)) : sProp 𝕄 :=
  iprop(∃ f : Buf (Elt F) ((c : Thread nD τ).loc r), ⌜f = X⌝ ∗ ((c : Thread nD τ).loc r ↦{fullShare} f))

set_option maxRecDepth 8000 in
def bodyPre (c : Dev nD) : sProp 𝕄 :=
  iprop(entry m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

set_option maxRecDepth 8000 in
def bodyPost (c : Dev nD) : sProp 𝕄 :=
  iprop(exit m c ∗ (dats m 0 c).owesAt () t0_0.succ
    ∗ stg c cc0_stg0_0 (aArr m c) ∗ stg c cc0_stg1_0 (bArr m c) ∗ stg c cc0_stg2_0 (ofin (aArr m) (bArr m)))

/-- After the run: the cells closed, the staged buffers handed back. -/
theorem after_run (K : Dev nD × CellIx → ℕ) (c : Dev nD) :
    iprop(live (aArr m) (bArr m) K c 0 ∗ positions c 1 ∗ bufsOut (aArr m) (bArr m) c) ⊢ |={Set.univ}=> bodyPost m c := by
  unfold live bufsOut
  iintro ⟨⟨#HR, ⟨%W, HO⟩⟩, Hpos, ⟨Ha, Hb⟩, Hz, Hr, Ho⟩
  imod (close_all (aArr m) (bArr m) K c) $$ [Hpos] with Hv
  · isplitr; · iexact HR
    iexact Hpos
  imodintro
  unfold bodyPost exit Dat.owesAt Pipeline.owesWithin
  isplitl [Hz Hr Hv]
  · isplitl [Hz]; · iexact Hz
    isplitl [Hr] <;> iassumption
  isplitl [HO]
  · rw [show (dats m 0 c).owed t0_0.succ = 0 from rfl]
    iexists W
    isplitr; · ipureintro; exact fun _ _ => Or.inl trivial
    iexact HO
  unfold aIn bIn
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 8000 in
/-- The run, its cells closed after it. -/
theorem run_closed (K : Dev nD × CellIx → ℕ) (c : Dev nD) :
    iprop(live (aArr m) (bArr m) K c (owed c 0 0 0) ∗ positions c 0 ∗ tokens c ∗ credits c ∗ bufsIn (aArr m) (bArr m) c)
      ⊢ runs c (run c) (bodyPost m c) :=
  ((run_runs (aArr m) (bArr m) K c).trans (wp_mono _ _ _ fun _ => after_run m K c)).trans (wp_fupd _ _ _ _ _)

/-- From what the launch gives it, the body runs to the filled buffers with every cell closed. -/
theorem point_runs (c : Dev nD) : bodyPre m c ⊢ runs c (run c) (bodyPost m c) := by
  unfold bodyPre entry start held
  iintro ⟨⟨⟨⟨%K, HL, Hpos, Htok⟩, Hcr, Hlev⟩, Hz, Hr⟩, Ho, ⟨%d0, %f0, %e0, Ha⟩, ⟨%d1, %f1, %e1, Hb⟩, ⟨%d2, %f2, %e2, Hout⟩⟩
  have e0 : f0 = aArr m c := e0.trans (found_a m c d0)
  have e1 : f1 = bArr m c := e1.trans (found_b m c d1)
  subst e0 e1
  unfold Dat.owesAt Pipeline.owesWithin
  icases Ho with ⟨%W, %hW, HO⟩
  iapply (run_closed m K c)
  unfold live bufsIn
  isplitl [HL Hlev HO]
  · isplitl [HL Hlev]
    · unfold records
      unfold ledger
      icases HL with ⟨H1, H2⟩
      isplitl [H1]; · iexact H1
      isplitl [H2] <;> iassumption
    iexists W; iexact HO
  isplitl [Hpos]; · iexact Hpos
  isplitl [Htok]; · iexact Htok
  isplitl [Hcr]; · iexact Hcr
  isplitl [Ha Hb]
  · unfold aIn bIn; isplitl [Ha] <;> iassumption
  isplitl [Hz]; · iexact Hz
  isplitl [Hr]; · iexact Hr
  iexists f2; iexact Hout

omit [FloatOps F] in
/-- One assertion for every window is one for each of the three. -/
theorem windows (Φ : Fin cfg0.W → sProp 𝕄) : bigSep Finset.univ Φ = iprop(Φ (0 : Fin 3) ∗ Φ (1 : Fin 3) ∗ Φ (2 : Fin 3)) := bigSep_W0 Φ

set_option maxRecDepth 8000 in
/-- The launch theorem's obligation on the body. -/
theorem body_obligation (c : Dev nD) : BodyObligation (dats (F := F) m 0 c) (defs₀ (F := F)) 𝒱₀ () Set.univ := fun t => by
  rw [fin_N0 t]
  rw [windows, windows]
  simp only [owns_buf]
  show bodyPre m c ⊢ wp frame (wpE (defs₀ (F := F)) 𝒱₀ c none) Set.univ
    (cc0_body aM (Memref.isWhole_whole _) bM (Memref.isWhole_whole _) oM (Memref.isWhole_whole _) zM
      (Memref.isWhole_whole _) rM (Memref.isWhole_whole _) cc0_scratch2 cc0_scratch3 cc0_scratch4 cc0_scratch5) (fun _ => bodyPost m c)
  rw [body_eq, wp_deviceId]
  exact point_runs m c

/-! ## The launch -/

/-- The transfer semaphores are distinct and none of them is the staging's. -/
theorem ownSem_facts : Pipeline.OwnSemFacts cfg0.spec ownSem := by decide +kernel

def u₀ : UU :=
  (initOf (Pipeline.cells cfgs cellOf_inj) (Pipeline.launchToks cfgs cellOf_inj), initOf ringCells ringDuties)

/-- What the launch deals a device is what its body starts from. -/
theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ held (aArr m) (bArr m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- With the two scratch buffers it is the state before the one point. -/
theorem entry_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = entry m c from rfl, scopedRest0_eq]
  unfold entry
  iintro ⟨Hs, -, Hz, Hr⟩
  isplitl [Hs]; · iexact Hs
  isplitl [Hz] <;> iassumption

/-- The state after the one point gives back the counters at zero and the scratch buffers. -/
theorem exit_elim (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = exit m c from rfl, scopedRest0_eq]
  unfold exit; rw [zeros_eq]
  iintro ⟨Hz, Hr, Hb, Hx⟩
  isplitl [Hb]; · iexact Hb
  isplitl [Hx]; · iexact Hx
  isplitl [Hz]
  · iexists _; iexact Hz
  · iexists _; iexact Hr

/-- A semaphore of role zero is at the lowest level. -/
theorem level_zero (c : Dev nD) (q : DmaSem sig) (h : (roleOf q).1 = 0) : lv ((c : Thread nD τ), SemLoc.dma q) () ≤ 0 := by
  unfold lv; simp only [h]; exact Nat.le_refl 0

/-- The staging copies' waits: their cells lie below everything a device owes. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_of c _ 0 0 0 0 (level_zero c _ (by fin_cases w <;> fin_cases s <;> decide)) (by omega) (by omega) (by omega)
    · show (_ : sProp 𝕄) ⊢ MayWait _ _ _ (0 : CellTallies nD τ sig Unit)
      rw [MayWait_zero]
      iintro -
      iempintro

/-! ### The run -/

/-- What the arrays end at. -/
def finalArr (c : Dev nD) (w : Fin cfg0.W) : Buf (Elt F) ((cfg0.win w).arr.view.loc (c : Thread nD τ)) := (dats m 0 c).arrAt w cfg0.N

/-- The left factor's array ends as it began; -/
theorem final_a (c : Dev nD) : finalArr m c (0 : Fin 3) = m ((c : Thread nD τ).loc main_arg0) := (dats (F := F) m 0 c).arrAt_in (0 : Fin 3) rfl _
/-- the right factor's likewise; -/
theorem final_b (c : Dev nD) : finalArr m c (1 : Fin 3) = m ((c : Thread nD τ).loc main_arg1) := (dats (F := F) m 0 c).arrAt_in (1 : Fin 3) rfl _
/-- the result's array ends at the finished result. -/
theorem final_o (c : Dev nD) : finalArr m c (2 : Fin 3) = ofin (aArr m) (bArr m) := by
  refine (block_o _).symm.trans ?_
  unfold finalArr
  rw [show cfg0.N = ((0 : Fin 1) : Fin cfg0.N).val + 1 from rfl, (dats m 0 c).arrAt_succ (2 : Fin 3) (0 : Fin 1), if_pos (flush0_2 (0 : Fin 1))]
  exact View.read_write_univ _ _

set_option maxRecDepth 8000 in
/-- Over any float values, from any memory with its counters at zero: every weakly fair execution of the eight devices
    terminates, the arrays at their final contents and every counter at zero. -/
theorem run_arrays : θ_run defs (onTc (τ := τ) (main (F := F))) ⟨m, fun _ => 0, ρ⟩
    (fun r => (∀ c : Dev nD, ∀ w : Fin cfg0.W, r.2.mem ((cfg0.win w).arr.view.loc (c : Thread nD τ)) = finalArr m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owedAll) (howed₀ := fun _ => rfl) (howedN := fun _ => rfl)
    (L := L) (lv := lv) (hL := L_of_ne) (hwaits := waits m)
    (G := dealt (aArr m) (bArr m)) (G' := held (aArr m) (bArr m)) (u₀ := u₀)
    (hu₀ := by
      unfold u₀
      iintro Hu
      ihave H := (ownU_pair _ _) $$ Hu
      icases H with ⟨HP, HX⟩
      imod (fund_ring (aArr m) (bArr m)) $$ HX with HG
      imodintro
      isplitl [HP] <;> iassumption)
    (hglob := glob (aArr m) (bArr m))
    (hA := fun _ _ => rfl) (hpf := fun _ k => k.elim0)
    (X := start m) (Y := fun c => unscopedSems0 c) (Z := fun _ => iprop(emp))
    (hX := start_intro m ρ) (hin := entry_intro m) (hout := exit_elim m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Read at the program's arrays: the arguments unchanged, every device's result the reduced one. -/
theorem run_main : θ_run defs (onTc (τ := τ) (main (F := F))) ⟨m, fun _ => 0, ρ⟩
    (fun r => (∀ c : Dev nD, r.2.mem ((c : Thread nD τ).loc main_v1) = ofin (aArr m) (bArr m)
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun r h => ⟨fun c => ⟨(h.1 c (2 : Fin 3)).trans (final_o m c), (h.1 c (0 : Fin 3)).trans (final_a m c),
    (h.1 c (1 : Fin 3)).trans (final_b m c)⟩, h.2⟩) (run_arrays m ρ)

/-- Of that, what says nothing of the result. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun r h => ⟨fun c => (h.1 c).2, h.2⟩) (run_main m ρ)

end Cert.Reduce

end
-- ==== Proof.Value.lean ====
/-
What the result holds over the extended reals: at every place the activation of the sum, over all devices, of the
partial products there, each a sum over the 512 columns its device holds.
-/
module

public import proofs.«01_k».proof.Proof.Contents
public import Idealize.ShloMosaic.Lib.MatmulPlain
public import Idealize.ShloMosaic.Lib.Pipeline.Value

@[expose] public section

noncomputable section

namespace Cert.Reduce

open Cert.KernelIdeal Cert.KernelIdeal.Gen
open Idealize.ShloMosaic Idealize.SL.Sem
open Idealize.ShloMosaic.ValueIdx

/-! ## The activation -/

/-- The activation of one number: `x / 2 · (1 + tanh (c₁ · (x + c₀ · x · x · x)))`, its constants the program's words. -/
def act (x : Ideal .f32) : Ideal .f32 :=
  (Ideal.ofBits .f32 0x3F000000#32 * x)
    * (Ideal.ofBits .f32 0x3F800000#32
      + Ideal.tanh (Ideal.ofBits .f32 0x3F4C422A#32 * (x + Ideal.ofBits .f32 0x3D372713#32 * x * x * x)))

/-- The kernel's finishing step, of one place. -/
theorem finish_apply (u v : FVec Ideal S64x1024 .f32) (i : S64x1024.Idx) : k0_pay13 u v i = act (u i + v i) := rfl

/-! ## The sum over the devices -/

variable (a : Dev nD → Vec Ideal S1024x512 .f32) (b : Dev nD → Vec Ideal S512x1024 .f32)

/-- The place of row `r` of half `h` of device `c`'s rows. -/
def place (c : Dev nD) (h : Fin 2) (r : Fin 64) (l : Fin 1024) : S1024x1024.Idx :=
  ix2 (n0 := 1024) (n1 := 1024) ⟨128 * c.val + 64 * h.val + r.val, landRow_lt c h r⟩ l

/-- Row `r` of the own half is that row of the device's product. -/
theorem own_apply (c : Dev nD) (h : Fin 2) (r : Fin 64) (l : Fin 1024) :
    ownIn a b c h (ix2 (n0 := 64) (n1 := 1024) r l) = zfin a b c (place c h r l) := by
  show zfin a b c ((rowsR c h).idx (ix2 (n0 := 64) (n1 := 1024) r l)) = _
  refine congrArg _ (funext fun x => ?_)
  match x with
  | ⟨0, _⟩ => apply Fin.ext; show 128 * c.val + 64 * h.val + 1 * r.val = 128 * c.val + 64 * h.val + r.val; omega
  | ⟨1, _⟩ => apply Fin.ext; show 0 + 1 * l.val = l.val; omega

/-- A slab, recast as rows, holds its sender's partial product at the rows it is for. -/
theorem slab_apply (c : Dev nD) (h : Fin 2) (o : Fin 7) (r : Fin 64) (l : Fin 1024) :
    shapeCast S64x1024 (slabIn a b c h o) shapeCasts_S1x1x64x1024_S64x1024 (ix2 (n0 := 64) (n1 := 1024) r l)
      = zfin a b (peer c (back o)) (place c h r l) := by
  have e : Shape.reshapeEquiv shapeCasts_S1x1x64x1024_S64x1024 (ix2 (n0 := 64) (n1 := 1024) r l)
      = (ix4 (0 : Fin 1) (0 : Fin 1) r l : S1x1x64x1024.Idx) :=
    reshapeEquiv_ix2_11ab (a := 64) (b := 1024) shapeCasts_S1x1x64x1024_S64x1024 r l
  have e' : (slabRect o h).idx (ix4 (0 : Fin 1) (0 : Fin 1) r l : S1x1x64x1024.Idx) = (ix4 o h r l : S7x2x64x1024.Idx) := by
    funext x
    match x with
    | ⟨0, _⟩ => rfl
    | ⟨1, _⟩ => rfl
    | ⟨2, _⟩ => apply Fin.ext; show 0 + 1 * r.val = r.val; omega
    | ⟨3, _⟩ => apply Fin.ext; show 0 + 1 * l.val = l.val; omega
  refine (congrArg (slabIn a b c h o) e).trans ?_
  exact (congrArg (rfin a b c) e').trans rfl

/-- Seven numbers added to one in turn. -/
theorem sum_seven (x : EReal) (f : Fin 7 → EReal) : x + f 0 + f 1 + f 2 + f 3 + f 4 + f 5 + f 6 = x + ∑ o, f o := by
  rw [Fin.sum_univ_seven]; simp only [add_assoc]

/-- A sum over the devices is this device's term and its peers'. -/
theorem sum_devs (c : Dev nD) (f : Dev nD → EReal) : ∑ e, f e = f c + ∑ o : Fin 7, f (peer c (back o)) := by
  have he : (Finset.univ : Finset (Dev nD)).erase c = Finset.univ.map ⟨fun o => peer c o, fun _ _ h => peer_inj c h⟩ := by
    revert c; decide +kernel
  rw [← Finset.add_sum_erase _ f (Finset.mem_univ c), he, Finset.sum_map]
  exact congrArg _ (Equiv.sum_comp (Equiv.mk back back back_back back_back) fun o => f (peer c o)).symm

/-- A finished half holds the activation of the sum of all devices' partial products. -/
theorem piece_apply (c : Dev nD) (h : Fin 2) (r : Fin 64) (l : Fin 1024) :
    outPiece a b c h (ix2 (n0 := 64) (n1 := 1024) r l) = act (∑ e, zfin a b e (place c h r l)) := by
  rw [sum_devs c fun e => zfin a b e (place c h r l), ← sum_seven, ← own_apply]
  simp only [← slab_apply]
  rfl

/-- So does the result, at every place. -/
theorem result_apply (i : S1024x1024.Idx) : ofin a b i = act (∑ e, zfin a b e i) := by
  refine (piece_apply a b (devOf (i 0)) (halfOf (i 0)) (inHalf (i 0)) (i 1)).trans ?_
  have e : place (devOf (i 0)) (halfOf (i 0)) (inHalf (i 0)) (i 1) = i := by
    funext x
    match x with
    | ⟨0, _⟩ =>
      apply Fin.ext
      show 128 * ((i 0).val / 128) + 64 * ((i 0).val % 128 / 64) + (i 0).val % 64 = (i 0).val
      omega
    | ⟨1, _⟩ => rfl
  rw [e]

/-! ## A partial product -/

/-- A partial product at a place: the products over the columns the device holds, added up. -/
theorem zfin_apply (c : Dev nD) (i : S1024x1024.Idx) :
    zfin a b c i = ∑ k : Fin 512, a c (ix2 (n0 := 1024) (n1 := 512) (i 0) k) * b c (ix2 (n0 := 512) (n1 := 1024) k (i 1)) := by
  have hp : part a b c (devOf (i 0)) (ix2 (n0 := 128) (n1 := 1024) (inBlock (i 0)) (i 1))
      = ∑ k : Fin 512, aRows a c (devOf (i 0)) (ix2 (n0 := 128) (n1 := 512) (inBlock (i 0)) k)
          * bAll b c (ix2 (n0 := 512) (n1 := 1024) k (i 1)) := by
    unfold part k0_pay1
    simp only [shapeCast_self]
    refine (Ideal.matmul_plain_apply (M := 128) (K := 512) (N := 1024) none _ _ _ (inBlock (i 0)) (i 1)).trans ?_
    refine (congrArg (· + _) (Ideal.ofBits_zero_f32)).trans ?_
    exact zero_add _
  refine Eq.trans hp (Finset.sum_congr rfl fun k _ => ?_)
  have ea : aRows a c (devOf (i 0)) (ix2 (n0 := 128) (n1 := 512) (inBlock (i 0)) k) = a c (ix2 (n0 := 1024) (n1 := 512) (i 0) k) := by
    show a c ((ablkR (devOf (i 0))).idx (ix2 (n0 := 128) (n1 := 512) (inBlock (i 0)) k)) = _
    refine congrArg _ (funext fun x => ?_)
    match x with
    | ⟨0, _⟩ => apply Fin.ext; show 128 * ((i 0).val / 128) + 1 * ((i 0).val % 128) = (i 0).val; omega
    | ⟨1, _⟩ => apply Fin.ext; show 0 + 1 * k.val = k.val; omega
  have eb : bAll b c (ix2 (n0 := 512) (n1 := 1024) k (i 1)) = b c (ix2 (n0 := 512) (n1 := 1024) k (i 1)) := by
    show b c (bRect.idx (ix2 (n0 := 512) (n1 := 1024) k (i 1))) = _
    refine congrArg _ (funext fun x => ?_)
    match x with
    | ⟨0, _⟩ => apply Fin.ext; show 0 + 1 * k.val = k.val; omega
    | ⟨1, _⟩ => apply Fin.ext; show 0 + 1 * (i 1).val = (i 1).val; omega
  rw [ea, eb]

end Cert.Reduce

end
-- ==== Proof.Equal.lean ====
/-
What the reference holds over the extended reals, and that it is what the kernel's devices hold when their arguments
are the blocks of the reference's: a sum over 4096 columns is the sum over the eight blocks of 512.
-/
module

public import proofs.«01_k».proof.Proof.Value
public import proofs.«01_k».proof.Proof.Gen.ReferenceIdeal
public import Idealize.ShloMosaic.Lib.Layout
public import Idealize.ShloMosaic.Lib.StackMember

@[expose] public section

noncomputable section

namespace Cert.Reduce

open Cert.KernelIdeal Cert.KernelIdeal.Gen
open Idealize.ShloMosaic Idealize.SL.Sem
open Idealize.ShloMosaic.ValueIdx

/-- The whole arguments, as the reference holds them. -/
abbrev LeftAll : Shape := ⟨2, ![1024, 4096]⟩
abbrev RightAll : Shape := ⟨2, ![4096, 1024]⟩

variable (A : FVec Ideal LeftAll .f32) (B : FVec Ideal RightAll .f32)

/-- The reference's product. -/
def refDot : FVec Ideal S1024x1024 .f32 :=
  Host.dotGeneral (F := Ideal) Cert.ReferenceIdeal.dot_S1024x4096_S4096x1024_S1024x1024_1_0_0_1_n_n none A B

/-- An entry of the reference's product is the sum over all 4096 columns. -/
theorem refDot_apply (i : S1024x1024.Idx) :
    refDot A B i = ∑ k : Fin 4096, A (ix2 (n0 := 1024) (n1 := 4096) (i 0) k) * B (ix2 (n0 := 4096) (n1 := 1024) k (i 1)) :=
  (congrArg (refDot A B) (eq_ix2 (n0 := 1024) (n1 := 1024) i)).trans
    (StackMember.dotGeneral_plain_apply (m := 1024) (k := 4096) (n := 1024) none A B (i 0) (i 1))

/-- A sum over 4096 columns, block by block. -/
theorem sum_blocks (f : Fin 4096 → EReal) :
    ∑ k : Fin 4096, f k = ∑ e : Dev nD, ∑ k : Fin 512, f ⟨512 * e.val + k.val, by have : e.val < 8 := e.isLt; have := k.isLt; omega⟩ := by
  rw [← Equiv.sum_comp (finProdFinEquiv (m := 8) (n := 512)) f, Fintype.sum_prod_type]
  refine Finset.sum_congr rfl fun e _ => Finset.sum_congr rfl fun k _ => congrArg f (Fin.ext ?_)
  show k.val + 512 * e.val = 512 * e.val + k.val
  omega

variable (a : Dev nD → Vec Ideal S1024x512 .f32) (b : Dev nD → Vec Ideal S512x1024 .f32)

/-- The devices' partial products add up to the reference's product. -/
theorem sum_zfin (ha : ∀ c : Dev nD, a c = Layout.block ⟨2, ![1024, 512]⟩ ⟨2, ![1024, 4096]⟩ 1 8 c A)
    (hb : ∀ c : Dev nD, b c = Layout.block ⟨2, ![512, 1024]⟩ ⟨2, ![4096, 1024]⟩ 0 8 c B) (i : S1024x1024.Idx) :
    ∑ e, zfin a b e i = refDot A B i := by
  rw [refDot_apply, sum_blocks]
  refine Finset.sum_congr rfl fun e _ => ?_
  rw [zfin_apply]
  refine Finset.sum_congr rfl fun k _ => ?_
  rw [ha e, hb e, Layout.block_apply, Layout.block_apply]
  congr 1
  · refine congrArg A (funext fun x => ?_)
    match x with
    | ⟨0, _⟩ => rfl
    | ⟨1, _⟩ => apply Fin.ext; show e.val * 512 + k.val = 512 * e.val + k.val; omega
  · refine congrArg B (funext fun x => ?_)
    match x with
    | ⟨0, _⟩ => apply Fin.ext; show e.val * 512 + k.val = 512 * e.val + k.val; omega
    | ⟨1, _⟩ => rfl

/-- The devices' result is the activation of the reference's product, place by place. -/
theorem result_eq (ha : ∀ c : Dev nD, a c = Layout.block ⟨2, ![1024, 512]⟩ ⟨2, ![1024, 4096]⟩ 1 8 c A)
    (hb : ∀ c : Dev nD, b c = Layout.block ⟨2, ![512, 1024]⟩ ⟨2, ![4096, 1024]⟩ 0 8 c B) :
    ofin a b = fun i => act (refDot A B i) :=
  funext fun i => by rw [result_apply, sum_zfin A B a b ha hb]

end Cert.Reduce

end
-- ==== Proof.lean ====
/- The claims, from the run of the kernel, the run of the reference and the equation between what they compute. -/
module

public import proofs.«01_k».proof.Defs
public import proofs.«01_k».proof.Proof.Launch
public import proofs.«01_k».proof.Proof.Equal
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The two texts give the same kernel bodies: label by label, the one body is the other. -/
theorem same_bodies :
    Cert.Kernel.defs₀ (F := Bits) = Cert.KernelIdeal.defs₀ (F := Bits) := by
  unfold Cert.Kernel.defs₀ Cert.KernelIdeal.defs₀
  congr 1
  funext ℓ x
  match ℓ, x with
  | 0, (t, s) => rfl
  | ⟨_ + 1, h⟩, _ => exact absurd h (Nat.not_lt.2 (Nat.le_add_left _ _))

/-- So the whole tables, with the launch's own entries, are the same too. -/
theorem same_tables : Cert.Kernel.defs (F := Bits) = Cert.KernelIdeal.defs (F := Bits) :=
  congrArg (Pipeline.defs (Cert.KernelIdeal.pcfgs (F := Bits))) same_bodies

/-- The kernel as printed, over bit patterns: it terminates, its arguments unchanged and every counter at zero. -/
theorem frame_kernel : Cert.quiescent_Kernel := fun m ρ _ => by
  rw [same_tables]
  exact Cert.Reduce.run_frame (F := Bits) m ρ

/-- The kernel over the extended reals, likewise. -/
theorem frame_kernelIdeal : Cert.quiescent_KernelIdeal := fun m ρ _ =>
  Cert.Reduce.run_frame (F := Ideal) m ρ

/-- The reference, likewise: it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the blocks of the reference's arguments every device ends with the reference's result. -/
theorem algebraic : Cert.algebraic_KernelIdeal_ReferenceIdeal := by
  intro m ρ m' ρ' _ hblk
  refine ⟨fun i => Cert.Reduce.act (Cert.Reduce.refDot
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) i), ?_, ?_⟩
  · refine (θ_run Cert.KernelIdeal.defs _ _).mono (fun r h c => ⟨(h.1 c).1.trans ?_, (h.1 c).2⟩) (Cert.Reduce.run_main (F := Ideal) m ρ)
    exact Cert.Reduce.result_eq _ _ _ _ (fun c => (hblk c).1) (fun c => (hblk c).2)
  · exact (θ_run Cert.ReferenceIdeal.defs _ _).mono (fun r h => ⟨(h 0).1, (h 0).2⟩) (Cert.ReferenceIdeal.Value.run (F := Ideal) m' ρ')

/-- All the claims together. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
